-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S4x8192 : Shape := ⟨2, ![4, 8192]⟩
abbrev S8192x768 : Shape := ⟨2, ![8192, 768]⟩
abbrev S768 : Shape := ⟨1, ![768]⟩
abbrev S6x4x256x768 : Shape := ⟨4, ![6, 4, 256, 768]⟩
abbrev S6 : Shape := ⟨1, ![6]⟩
abbrev S6x256x768 : Shape := ⟨3, ![6, 256, 768]⟩
abbrev S2x4x256x768 : Shape := ⟨4, ![2, 4, 256, 768]⟩
abbrev S2 : Shape := ⟨1, ![2]⟩
abbrev S1 : Shape := ⟨1, ![1]⟩
abbrev S_ : Shape := ⟨0, ![]⟩
abbrev S1x4x256x768 : Shape := ⟨4, ![1, 4, 256, 768]⟩
abbrev S4x256x768 : Shape := ⟨3, ![4, 256, 768]⟩
abbrev S1x256x768 : Shape := ⟨3, ![1, 256, 768]⟩
abbrev S256x768 : Shape := ⟨2, ![256, 768]⟩
abbrev S4x256 : Shape := ⟨2, ![4, 256]⟩
abbrev S4x256x1 : Shape := ⟨3, ![4, 256, 1]⟩
abbrev S1x1x768 : Shape := ⟨3, ![1, 1, 768]⟩

abbrev nBuf : Space → Nat
  | .hbm => 6
  | .vmem => 5
  | .smem => 0
  | _ => 0

abbrev bufTy : (tb : Table) → Fin (tcTables nBuf tb) → BufTy
  | .hbm, ⟨0, _⟩ => ⟨S4x8192x768, .f32⟩
  | .hbm, ⟨1, _⟩ => ⟨S4x8192, .i32⟩
  | .hbm, ⟨2, _⟩ => ⟨S8192x768, .f32⟩
  | .hbm, ⟨3, _⟩ => ⟨S768, .f32⟩
  | .hbm, ⟨4, _⟩ => ⟨S768, .f32⟩
  | .hbm, ⟨5, _⟩ => ⟨S4x8192x768, .f32⟩
  | .local _ .vmem, ⟨0, _⟩ => ⟨S768, .f32⟩
  | .local _ .vmem, ⟨1, _⟩ => ⟨S768, .f32⟩
  | .local _ .vmem, ⟨2, _⟩ => ⟨S6x4x256x768, .f32⟩
  | .local _ .vmem, ⟨3, _⟩ => ⟨S6x256x768, .f32⟩
  | .local _ .vmem, ⟨4, _⟩ => ⟨S2x4x256x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scoped0 : Ref sig .tc := ⟨.vmem, 2, rfl⟩
abbrev cc0_scoped2 : Ref sig .tc := ⟨.vmem, 3, rfl⟩
abbrev cc0_scoped4 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 : Fin 1 → Nat :=
  let c0_i32_33_r0 : BitVec 32 := 0#32
  let c6_i32_r0 : BitVec 32 := 6#32
  let v36_r0 : BitVec 32 := Scalar.remui c0_i32_33_r0 c6_i32_r0
  ![v36_r0.toNat]
def k0_off2 : Fin 4 → Nat :=
  let c0_i32_33_r0 : BitVec 32 := 0#32
  let c6_i32_r0 : BitVec 32 := 6#32
  let v36_r0 : BitVec 32 := Scalar.remui c0_i32_33_r0 c6_i32_r0
  let c0_i32_34_r0 : BitVec 32 := 0#32
  let c0_i32_35_r0 : BitVec 32 := 0#32
  let c0_i32_36_r0 : BitVec 32 := 0#32
  ![v36_r0.toNat, 0, 0, 0]
def k0_off3 : Fin 3 → Nat :=
  let c0_i32_42_r0 : BitVec 32 := 0#32
  let c6_i32_43_r0 : BitVec 32 := 6#32
  let v43_r0 : BitVec 32 := Scalar.remui c0_i32_42_r0 c6_i32_43_r0
  let c0_i32_44_r0 : BitVec 32 := 0#32
  let c0_i32_45_r0 : BitVec 32 := 0#32
  ![v43_r0.toNat, 0, 0]
def k0_cond1 : BitVec 1 :=
  let true_51_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_50_r0 : BitVec 32 := 0#32
  let v50_r0 : BitVec 1 := Scalar.cmpi .ne v10_r0 c0_i32_50_r0
  let v51_r0 : BitVec 1 := Scalar.andi true_51_r0 v50_r0
  let true_52_r0 : BitVec 1 := 1#1
  let v52_r0 : BitVec 1 := Scalar.andi v51_r0 true_52_r0
  let v53_r0 : BitVec 32 := Scalar.extui v52_r0
  let c0_i32_53_r0 : BitVec 32 := 0#32
  let v54_r0 : BitVec 1 := Scalar.cmpi .ne v53_r0 c0_i32_53_r0
  v54_r0

def k0_off4 : Fin 1 → Nat :=
  let c0_i32_40_r0 : BitVec 32 := 0#32
  let c1_i32_41_r0 : BitVec 32 := 1#32
  let v42_r0 : BitVec 32 := Scalar.addi c0_i32_40_r0 c1_i32_41_r0
  let c6_i32_138_r0 : BitVec 32 := 6#32
  let v155_r0 : BitVec 32 := Scalar.remui v42_r0 c6_i32_138_r0
  ![v155_r0.toNat]
def k0_off5 : Fin 4 → Nat :=
  let c0_i32_40_r0 : BitVec 32 := 0#32
  let c1_i32_41_r0 : BitVec 32 := 1#32
  let v42_r0 : BitVec 32 := Scalar.addi c0_i32_40_r0 c1_i32_41_r0
  let c6_i32_138_r0 : BitVec 32 := 6#32
  let v155_r0 : BitVec 32 := Scalar.remui v42_r0 c6_i32_138_r0
  let c0_i32_140_r0 : BitVec 32 := 0#32
  let c0_i32_141_r0 : BitVec 32 := 0#32
  let c0_i32_142_r0 : BitVec 32 := 0#32
  ![v155_r0.toNat, 0, 0, 0]
def k0_off6 : Fin 3 → Nat :=
  let c0_i32_143_r0 : BitVec 32 := 0#32
  let c256_i32_139_r0 : BitVec 32 := 256#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v156_r0 : BitVec 32 := Scalar.muli c256_i32_139_r0 v10_r0
  let c0_i32_144_r0 : BitVec 32 := 0#32
  ![0, v156_r0.toNat, 0]
def k0_cond2 : BitVec 1 :=
  let true_56_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_55_r0 : BitVec 32 := 0#32
  let v57_r0 : BitVec 1 := Scalar.cmpi .ne v10_r0 c0_i32_55_r0
  let v58_r0 : BitVec 1 := Scalar.andi true_56_r0 v57_r0
  let true_57_r0 : BitVec 1 := 1#1
  let v59_r0 : BitVec 1 := Scalar.andi v58_r0 true_57_r0
  let v60_r0 : BitVec 32 := Scalar.extui v59_r0
  let c0_i32_58_r0 : BitVec 32 := 0#32
  let v61_r0 : BitVec 1 := Scalar.cmpi .ne v60_r0 c0_i32_58_r0
  v61_r0

def k0_off7 : Fin 1 → Nat :=
  let c0_i32_48_r0 : BitVec 32 := 0#32
  let c1_i32_49_r0 : BitVec 32 := 1#32
  let v49_r0 : BitVec 32 := Scalar.addi c0_i32_48_r0 c1_i32_49_r0
  let c6_i32_138_r0 : BitVec 32 := 6#32
  let v155_r0 : BitVec 32 := Scalar.remui v49_r0 c6_i32_138_r0
  ![v155_r0.toNat]
def k0_off8 : Fin 3 → Nat :=
  let c0_i32_48_r0 : BitVec 32 := 0#32
  let c1_i32_49_r0 : BitVec 32 := 1#32
  let v49_r0 : BitVec 32 := Scalar.addi c0_i32_48_r0 c1_i32_49_r0
  let c6_i32_138_r0 : BitVec 32 := 6#32
  let v155_r0 : BitVec 32 := Scalar.remui v49_r0 c6_i32_138_r0
  let c0_i32_140_r0 : BitVec 32 := 0#32
  let c0_i32_141_r0 : BitVec 32 := 0#32
  ![v155_r0.toNat, 0, 0]
def k0_off9 : Fin 2 → Nat :=
  let c256_i32_139_r0 : BitVec 32 := 256#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v156_r0 : BitVec 32 := Scalar.muli c256_i32_139_r0 v10_r0
  let c0_i32_142_r0 : BitVec 32 := 0#32
  ![v156_r0.toNat, 0]
def k0_cond3 : BitVec 1 :=
  let true_60_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v64_r0 : BitVec 1 := Scalar.cmpi .ne v15_r0 v10_r0
  let v65_r0 : BitVec 1 := Scalar.andi true_60_r0 v64_r0
  let true_61_r0 : BitVec 1 := 1#1
  let v66_r0 : BitVec 1 := Scalar.andi v65_r0 true_61_r0
  let v67_r0 : BitVec 32 := Scalar.extui v66_r0
  let c0_i32_62_r0 : BitVec 32 := 0#32
  let v68_r0 : BitVec 1 := Scalar.cmpi .ne v67_r0 c0_i32_62_r0
  v68_r0

def k0_off10 : Fin 1 → Nat :=
  let true_51_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_50_r0 : BitVec 32 := 0#32
  let v50_r0 : BitVec 1 := Scalar.cmpi .ne v10_r0 c0_i32_50_r0
  let v51_r0 : BitVec 1 := Scalar.andi true_51_r0 v50_r0
  let c0_i32_40_r0 : BitVec 32 := 0#32
  let c1_i32_41_r0 : BitVec 32 := 1#32
  let v42_r0 : BitVec 32 := Scalar.addi c0_i32_40_r0 c1_i32_41_r0
  let c1_i32_54_r0 : BitVec 32 := 1#32
  let v55_r0 : BitVec 32 := Scalar.addi v42_r0 c1_i32_54_r0
  let v56_r0 : BitVec 32 := Scalar.select v51_r0 v55_r0 v42_r0
  let c6_i32_138_r0 : BitVec 32 := 6#32
  let v155_r0 : BitVec 32 := Scalar.remui v56_r0 c6_i32_138_r0
  ![v155_r0.toNat]
def k0_off11 : Fin 4 → Nat :=
  let true_51_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_50_r0 : BitVec 32 := 0#32
  let v50_r0 : BitVec 1 := Scalar.cmpi .ne v10_r0 c0_i32_50_r0
  let v51_r0 : BitVec 1 := Scalar.andi true_51_r0 v50_r0
  let c0_i32_40_r0 : BitVec 32 := 0#32
  let c1_i32_41_r0 : BitVec 32 := 1#32
  let v42_r0 : BitVec 32 := Scalar.addi c0_i32_40_r0 c1_i32_41_r0
  let c1_i32_54_r0 : BitVec 32 := 1#32
  let v55_r0 : BitVec 32 := Scalar.addi v42_r0 c1_i32_54_r0
  let v56_r0 : BitVec 32 := Scalar.select v51_r0 v55_r0 v42_r0
  let c6_i32_138_r0 : BitVec 32 := 6#32
  let v155_r0 : BitVec 32 := Scalar.remui v56_r0 c6_i32_138_r0
  let c0_i32_140_r0 : BitVec 32 := 0#32
  let c0_i32_141_r0 : BitVec 32 := 0#32
  let c0_i32_142_r0 : BitVec 32 := 0#32
  ![v155_r0.toNat, 0, 0, 0]
def k0_off12 : Fin 3 → Nat :=
  let c0_i32_143_r0 : BitVec 32 := 0#32
  let c256_i32_139_r0 : BitVec 32 := 256#32
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let v156_r0 : BitVec 32 := Scalar.muli c256_i32_139_r0 v15_r0
  let c0_i32_144_r0 : BitVec 32 := 0#32
  ![0, v156_r0.toNat, 0]
def k0_cond4 : BitVec 1 :=
  let true_64_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v71_r0 : BitVec 1 := Scalar.cmpi .ne v15_r0 v10_r0
  let v72_r0 : BitVec 1 := Scalar.andi true_64_r0 v71_r0
  let true_65_r0 : BitVec 1 := 1#1
  let v73_r0 : BitVec 1 := Scalar.andi v72_r0 true_65_r0
  let v74_r0 : BitVec 32 := Scalar.extui v73_r0
  let c0_i32_66_r0 : BitVec 32 := 0#32
  let v75_r0 : BitVec 1 := Scalar.cmpi .ne v74_r0 c0_i32_66_r0
  v75_r0

def k0_off13 : Fin 1 → Nat :=
  let true_56_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_55_r0 : BitVec 32 := 0#32
  let v57_r0 : BitVec 1 := Scalar.cmpi .ne v10_r0 c0_i32_55_r0
  let v58_r0 : BitVec 1 := Scalar.andi true_56_r0 v57_r0
  let c0_i32_48_r0 : BitVec 32 := 0#32
  let c1_i32_49_r0 : BitVec 32 := 1#32
  let v49_r0 : BitVec 32 := Scalar.addi c0_i32_48_r0 c1_i32_49_r0
  let c1_i32_59_r0 : BitVec 32 := 1#32
  let v62_r0 : BitVec 32 := Scalar.addi v49_r0 c1_i32_59_r0
  let v63_r0 : BitVec 32 := Scalar.select v58_r0 v62_r0 v49_r0
  let c6_i32_138_r0 : BitVec 32 := 6#32
  let v155_r0 : BitVec 32 := Scalar.remui v63_r0 c6_i32_138_r0
  ![v155_r0.toNat]
def k0_off14 : Fin 3 → Nat :=
  let true_56_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_55_r0 : BitVec 32 := 0#32
  let v57_r0 : BitVec 1 := Scalar.cmpi .ne v10_r0 c0_i32_55_r0
  let v58_r0 : BitVec 1 := Scalar.andi true_56_r0 v57_r0
  let c0_i32_48_r0 : BitVec 32 := 0#32
  let c1_i32_49_r0 : BitVec 32 := 1#32
  let v49_r0 : BitVec 32 := Scalar.addi c0_i32_48_r0 c1_i32_49_r0
  let c1_i32_59_r0 : BitVec 32 := 1#32
  let v62_r0 : BitVec 32 := Scalar.addi v49_r0 c1_i32_59_r0
  let v63_r0 : BitVec 32 := Scalar.select v58_r0 v62_r0 v49_r0
  let c6_i32_138_r0 : BitVec 32 := 6#32
  let v155_r0 : BitVec 32 := Scalar.remui v63_r0 c6_i32_138_r0
  let c0_i32_140_r0 : BitVec 32 := 0#32
  let c0_i32_141_r0 : BitVec 32 := 0#32
  ![v155_r0.toNat, 0, 0]
def k0_off15 : Fin 2 → Nat :=
  let c256_i32_139_r0 : BitVec 32 := 256#32
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let v156_r0 : BitVec 32 := Scalar.muli c256_i32_139_r0 v15_r0
  let c0_i32_142_r0 : BitVec 32 := 0#32
  ![v156_r0.toNat, 0]
def k0_cond5 : BitVec 1 :=
  let true_68_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v78_r0 : BitVec 1 := Scalar.cmpi .ne v20_r0 v15_r0
  let v79_r0 : BitVec 1 := Scalar.andi true_68_r0 v78_r0
  let true_69_r0 : BitVec 1 := 1#1
  let v80_r0 : BitVec 1 := Scalar.andi v79_r0 true_69_r0
  let v81_r0 : BitVec 32 := Scalar.extui v80_r0
  let c0_i32_70_r0 : BitVec 32 := 0#32
  let v82_r0 : BitVec 1 := Scalar.cmpi .ne v81_r0 c0_i32_70_r0
  v82_r0

def k0_off16 : Fin 1 → Nat :=
  let true_60_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v64_r0 : BitVec 1 := Scalar.cmpi .ne v15_r0 v10_r0
  let v65_r0 : BitVec 1 := Scalar.andi true_60_r0 v64_r0
  let true_51_r0 : BitVec 1 := 1#1
  let c0_i32_50_r0 : BitVec 32 := 0#32
  let v50_r0 : BitVec 1 := Scalar.cmpi .ne v10_r0 c0_i32_50_r0
  let v51_r0 : BitVec 1 := Scalar.andi true_51_r0 v50_r0
  let c0_i32_40_r0 : BitVec 32 := 0#32
  let c1_i32_41_r0 : BitVec 32 := 1#32
  let v42_r0 : BitVec 32 := Scalar.addi c0_i32_40_r0 c1_i32_41_r0
  let c1_i32_54_r0 : BitVec 32 := 1#32
  let v55_r0 : BitVec 32 := Scalar.addi v42_r0 c1_i32_54_r0
  let v56_r0 : BitVec 32 := Scalar.select v51_r0 v55_r0 v42_r0
  let c1_i32_63_r0 : BitVec 32 := 1#32
  let v69_r0 : BitVec 32 := Scalar.addi v56_r0 c1_i32_63_r0
  let v70_r0 : BitVec 32 := Scalar.select v65_r0 v69_r0 v56_r0
  let c6_i32_138_r0 : BitVec 32 := 6#32
  let v155_r0 : BitVec 32 := Scalar.remui v70_r0 c6_i32_138_r0
  ![v155_r0.toNat]
def k0_off17 : Fin 4 → Nat :=
  let true_60_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v64_r0 : BitVec 1 := Scalar.cmpi .ne v15_r0 v10_r0
  let v65_r0 : BitVec 1 := Scalar.andi true_60_r0 v64_r0
  let true_51_r0 : BitVec 1 := 1#1
  let c0_i32_50_r0 : BitVec 32 := 0#32
  let v50_r0 : BitVec 1 := Scalar.cmpi .ne v10_r0 c0_i32_50_r0
  let v51_r0 : BitVec 1 := Scalar.andi true_51_r0 v50_r0
  let c0_i32_40_r0 : BitVec 32 := 0#32
  let c1_i32_41_r0 : BitVec 32 := 1#32
  let v42_r0 : BitVec 32 := Scalar.addi c0_i32_40_r0 c1_i32_41_r0
  let c1_i32_54_r0 : BitVec 32 := 1#32
  let v55_r0 : BitVec 32 := Scalar.addi v42_r0 c1_i32_54_r0
  let v56_r0 : BitVec 32 := Scalar.select v51_r0 v55_r0 v42_r0
  let c1_i32_63_r0 : BitVec 32 := 1#32
  let v69_r0 : BitVec 32 := Scalar.addi v56_r0 c1_i32_63_r0
  let v70_r0 : BitVec 32 := Scalar.select v65_r0 v69_r0 v56_r0
  let c6_i32_138_r0 : BitVec 32 := 6#32
  let v155_r0 : BitVec 32 := Scalar.remui v70_r0 c6_i32_138_r0
  let c0_i32_140_r0 : BitVec 32 := 0#32
  let c0_i32_141_r0 : BitVec 32 := 0#32
  let c0_i32_142_r0 : BitVec 32 := 0#32
  ![v155_r0.toNat, 0, 0, 0]
def k0_off18 : Fin 3 → Nat :=
  let c0_i32_143_r0 : BitVec 32 := 0#32
  let c256_i32_139_r0 : BitVec 32 := 256#32
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let v156_r0 : BitVec 32 := Scalar.muli c256_i32_139_r0 v20_r0
  let c0_i32_144_r0 : BitVec 32 := 0#32
  ![0, v156_r0.toNat, 0]
def k0_cond6 : BitVec 1 :=
  let true_72_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v85_r0 : BitVec 1 := Scalar.cmpi .ne v20_r0 v15_r0
  let v86_r0 : BitVec 1 := Scalar.andi true_72_r0 v85_r0
  let true_73_r0 : BitVec 1 := 1#1
  let v87_r0 : BitVec 1 := Scalar.andi v86_r0 true_73_r0
  let v88_r0 : BitVec 32 := Scalar.extui v87_r0
  let c0_i32_74_r0 : BitVec 32 := 0#32
  let v89_r0 : BitVec 1 := Scalar.cmpi .ne v88_r0 c0_i32_74_r0
  v89_r0

def k0_off19 : Fin 1 → Nat :=
  let true_64_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v71_r0 : BitVec 1 := Scalar.cmpi .ne v15_r0 v10_r0
  let v72_r0 : BitVec 1 := Scalar.andi true_64_r0 v71_r0
  let true_56_r0 : BitVec 1 := 1#1
  let c0_i32_55_r0 : BitVec 32 := 0#32
  let v57_r0 : BitVec 1 := Scalar.cmpi .ne v10_r0 c0_i32_55_r0
  let v58_r0 : BitVec 1 := Scalar.andi true_56_r0 v57_r0
  let c0_i32_48_r0 : BitVec 32 := 0#32
  let c1_i32_49_r0 : BitVec 32 := 1#32
  let v49_r0 : BitVec 32 := Scalar.addi c0_i32_48_r0 c1_i32_49_r0
  let c1_i32_59_r0 : BitVec 32 := 1#32
  let v62_r0 : BitVec 32 := Scalar.addi v49_r0 c1_i32_59_r0
  let v63_r0 : BitVec 32 := Scalar.select v58_r0 v62_r0 v49_r0
  let c1_i32_67_r0 : BitVec 32 := 1#32
  let v76_r0 : BitVec 32 := Scalar.addi v63_r0 c1_i32_67_r0
  let v77_r0 : BitVec 32 := Scalar.select v72_r0 v76_r0 v63_r0
  let c6_i32_138_r0 : BitVec 32 := 6#32
  let v155_r0 : BitVec 32 := Scalar.remui v77_r0 c6_i32_138_r0
  ![v155_r0.toNat]
def k0_off20 : Fin 3 → Nat :=
  let true_64_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v71_r0 : BitVec 1 := Scalar.cmpi .ne v15_r0 v10_r0
  let v72_r0 : BitVec 1 := Scalar.andi true_64_r0 v71_r0
  let true_56_r0 : BitVec 1 := 1#1
  let c0_i32_55_r0 : BitVec 32 := 0#32
  let v57_r0 : BitVec 1 := Scalar.cmpi .ne v10_r0 c0_i32_55_r0
  let v58_r0 : BitVec 1 := Scalar.andi true_56_r0 v57_r0
  let c0_i32_48_r0 : BitVec 32 := 0#32
  let c1_i32_49_r0 : BitVec 32 := 1#32
  let v49_r0 : BitVec 32 := Scalar.addi c0_i32_48_r0 c1_i32_49_r0
  let c1_i32_59_r0 : BitVec 32 := 1#32
  let v62_r0 : BitVec 32 := Scalar.addi v49_r0 c1_i32_59_r0
  let v63_r0 : BitVec 32 := Scalar.select v58_r0 v62_r0 v49_r0
  let c1_i32_67_r0 : BitVec 32 := 1#32
  let v76_r0 : BitVec 32 := Scalar.addi v63_r0 c1_i32_67_r0
  let v77_r0 : BitVec 32 := Scalar.select v72_r0 v76_r0 v63_r0
  let c6_i32_138_r0 : BitVec 32 := 6#32
  let v155_r0 : BitVec 32 := Scalar.remui v77_r0 c6_i32_138_r0
  let c0_i32_140_r0 : BitVec 32 := 0#32
  let c0_i32_141_r0 : BitVec 32 := 0#32
  ![v155_r0.toNat, 0, 0]
def k0_off21 : Fin 2 → Nat :=
  let c256_i32_139_r0 : BitVec 32 := 256#32
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let v156_r0 : BitVec 32 := Scalar.muli c256_i32_139_r0 v20_r0
  let c0_i32_142_r0 : BitVec 32 := 0#32
  ![v156_r0.toNat, 0]
def k0_cond7 : BitVec 1 :=
  let true_76_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let c0_i32_17_r0 : BitVec 32 := 0#32
  let v20_r0 : BitVec 32 := Scalar.addi v19_r0 c0_i32_17_r0
  let v92_r0 : BitVec 1 := Scalar.cmpi .ne v25_r0 v20_r0
  let v93_r0 : BitVec 1 := Scalar.andi true_76_r0 v92_r0
  let true_77_r0 : BitVec 1 := 1#1
  let v94_r0 : BitVec 1 := Scalar.andi v93_r0 true_77_r0
  let v95_r0 : BitVec 32 := Scalar.extui v94_r0
  let c0_i32_78_r0 : BitVec 32 := 0#32
  let v96_r0 : BitVec 1 := Scalar.cmpi .ne v95_r0 c0_i32_78_r0
  v96_r0

def k0_off22 : Fin 1 → Nat :=
  let true_68_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v78_r0 : BitVec 1 := Scalar.cmpi .ne v20_r0 v15_r0
  let v79_r0 : BitVec 1 := Scalar.andi true_68_r0 v78_r0
  let true_60_r0 : BitVec 1 := 1#1
  let c0_i32_7_r0 : BitVec 32 := 0#32
  let v10_r0 : BitVec 32 := Scalar.addi v9_r0 c0_i32_7_r0
  let v64_r0 : BitVec 1 := Scalar.cmpi .ne v15_r0 v10_r0
  let v65_r0 : BitVec 1 := Scalar.andi true_60_r0 v64_r0
  let true_51_r0 : BitVec 1 := 1#1
  let c0_i32_50_r0 : BitVec 32 := 0#32
  let v50_r0 : BitVec 1 := Scalar.cmpi .ne v10_r0 c0_i32_50_r0
  let v51_r0 : BitVec 1 := Scalar.andi true_51_r0 v50_r0
  let c0_i32_40_r0 : BitVec 32 := 0#32
  let c1_i32_41_r0 : BitVec 32 := 1#32
  let v42_r0 : BitVec 32 := Scalar.addi c0_i32_40_r0 c1_i32_41_r0
  let c1_i32_54_r0 : BitVec 32 := 1#32
  let v55_r0 : BitVec 32 := Scalar.addi v42_r0 c1_i32_54_r0
  let v56_r0 : BitVec 32 := Scalar.select v51_r0 v55_r0 v42_r0
  let c1_i32_63_r0 : BitVec 32 := 1#32
  let v69_r0 : BitVec 32 := Scalar.addi v56_r0 c1_i32_63_r0
  let v70_r0 : BitVec 32 := Scalar.select v65_r0 v69_r0 v56_r0
  let c1_i32_71_r0 : BitVec 32 := 1#32
  let v83_r0 : BitVec 32 := Scalar.addi v70_r0 c1_i32_71_r0
  let v84_r0 : BitVec 32 := Scalar.select v79_r0 v83_r0 v70_r0
  let c6_i32_138_r0 : BitVec 32 := 6#32
  let v155_r0 : BitVec 32 := Scalar.remui v84_r0 c6_i32_138_r0
  ![v155_r0.toNat]
def k0_off23 : Fin 4 → Nat :=
  let true_68_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v78_r0 : BitVec 1 := Scalar.cmpi .ne v20_r0 v15_r0
  let v79_r0 : BitVec 1 := Scalar.andi true_68_r0 v78_r0
  let true_60_r0 : BitVec 1 := 1#1
  let c0_i32_7_r0 : BitVec 32 := 0#32
  let v10_r0 : BitVec 32 := Scalar.addi v9_r0 c0_i32_7_r0
  let v64_r0 : BitVec 1 := Scalar.cmpi .ne v15_r0 v10_r0
  let v65_r0 : BitVec 1 := Scalar.andi true_60_r0 v64_r0
  let true_51_r0 : BitVec 1 := 1#1
  let c0_i32_50_r0 : BitVec 32 := 0#32
  let v50_r0 : BitVec 1 := Scalar.cmpi .ne v10_r0 c0_i32_50_r0
  let v51_r0 : BitVec 1 := Scalar.andi true_51_r0 v50_r0
  let c0_i32_40_r0 : BitVec 32 := 0#32
  let c1_i32_41_r0 : BitVec 32 := 1#32
  let v42_r0 : BitVec 32 := Scalar.addi c0_i32_40_r0 c1_i32_41_r0
  let c1_i32_54_r0 : BitVec 32 := 1#32
  let v55_r0 : BitVec 32 := Scalar.addi v42_r0 c1_i32_54_r0
  let v56_r0 : BitVec 32 := Scalar.select v51_r0 v55_r0 v42_r0
  let c1_i32_63_r0 : BitVec 32 := 1#32
  let v69_r0 : BitVec 32 := Scalar.addi v56_r0 c1_i32_63_r0
  let v70_r0 : BitVec 32 := Scalar.select v65_r0 v69_r0 v56_r0
  let c1_i32_71_r0 : BitVec 32 := 1#32
  let v83_r0 : BitVec 32 := Scalar.addi v70_r0 c1_i32_71_r0
  let v84_r0 : BitVec 32 := Scalar.select v79_r0 v83_r0 v70_r0
  let c6_i32_138_r0 : BitVec 32 := 6#32
  let v155_r0 : BitVec 32 := Scalar.remui v84_r0 c6_i32_138_r0
  let c0_i32_140_r0 : BitVec 32 := 0#32
  let c0_i32_141_r0 : BitVec 32 := 0#32
  let c0_i32_142_r0 : BitVec 32 := 0#32
  ![v155_r0.toNat, 0, 0, 0]
def k0_off24 : Fin 3 → Nat :=
  let c0_i32_143_r0 : BitVec 32 := 0#32
  let c256_i32_139_r0 : BitVec 32 := 256#32
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let v156_r0 : BitVec 32 := Scalar.muli c256_i32_139_r0 v25_r0
  let c0_i32_144_r0 : BitVec 32 := 0#32
  ![0, v156_r0.toNat, 0]
def k0_cond8 : BitVec 1 :=
  let true_80_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let c0_i32_17_r0 : BitVec 32 := 0#32
  let v20_r0 : BitVec 32 := Scalar.addi v19_r0 c0_i32_17_r0
  let v99_r0 : BitVec 1 := Scalar.cmpi .ne v25_r0 v20_r0
  let v100_r0 : BitVec 1 := Scalar.andi true_80_r0 v99_r0
  let true_81_r0 : BitVec 1 := 1#1
  let v101_r0 : BitVec 1 := Scalar.andi v100_r0 true_81_r0
  let v102_r0 : BitVec 32 := Scalar.extui v101_r0
  let c0_i32_82_r0 : BitVec 32 := 0#32
  let v103_r0 : BitVec 1 := Scalar.cmpi .ne v102_r0 c0_i32_82_r0
  v103_r0

def k0_off25 : Fin 1 → Nat :=
  let true_72_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v85_r0 : BitVec 1 := Scalar.cmpi .ne v20_r0 v15_r0
  let v86_r0 : BitVec 1 := Scalar.andi true_72_r0 v85_r0
  let true_64_r0 : BitVec 1 := 1#1
  let c0_i32_7_r0 : BitVec 32 := 0#32
  let v10_r0 : BitVec 32 := Scalar.addi v9_r0 c0_i32_7_r0
  let v71_r0 : BitVec 1 := Scalar.cmpi .ne v15_r0 v10_r0
  let v72_r0 : BitVec 1 := Scalar.andi true_64_r0 v71_r0
  let true_56_r0 : BitVec 1 := 1#1
  let c0_i32_55_r0 : BitVec 32 := 0#32
  let v57_r0 : BitVec 1 := Scalar.cmpi .ne v10_r0 c0_i32_55_r0
  let v58_r0 : BitVec 1 := Scalar.andi true_56_r0 v57_r0
  let c0_i32_48_r0 : BitVec 32 := 0#32
  let c1_i32_49_r0 : BitVec 32 := 1#32
  let v49_r0 : BitVec 32 := Scalar.addi c0_i32_48_r0 c1_i32_49_r0
  let c1_i32_59_r0 : BitVec 32 := 1#32
  let v62_r0 : BitVec 32 := Scalar.addi v49_r0 c1_i32_59_r0
  let v63_r0 : BitVec 32 := Scalar.select v58_r0 v62_r0 v49_r0
  let c1_i32_67_r0 : BitVec 32 := 1#32
  let v76_r0 : BitVec 32 := Scalar.addi v63_r0 c1_i32_67_r0
  let v77_r0 : BitVec 32 := Scalar.select v72_r0 v76_r0 v63_r0
  let c1_i32_75_r0 : BitVec 32 := 1#32
  let v90_r0 : BitVec 32 := Scalar.addi v77_r0 c1_i32_75_r0
  let v91_r0 : BitVec 32 := Scalar.select v86_r0 v90_r0 v77_r0
  let c6_i32_138_r0 : BitVec 32 := 6#32
  let v155_r0 : BitVec 32 := Scalar.remui v91_r0 c6_i32_138_r0
  ![v155_r0.toNat]
def k0_off26 : Fin 3 → Nat :=
  let true_72_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v85_r0 : BitVec 1 := Scalar.cmpi .ne v20_r0 v15_r0
  let v86_r0 : BitVec 1 := Scalar.andi true_72_r0 v85_r0
  let true_64_r0 : BitVec 1 := 1#1
  let c0_i32_7_r0 : BitVec 32 := 0#32
  let v10_r0 : BitVec 32 := Scalar.addi v9_r0 c0_i32_7_r0
  let v71_r0 : BitVec 1 := Scalar.cmpi .ne v15_r0 v10_r0
  let v72_r0 : BitVec 1 := Scalar.andi true_64_r0 v71_r0
  let true_56_r0 : BitVec 1 := 1#1
  let c0_i32_55_r0 : BitVec 32 := 0#32
  let v57_r0 : BitVec 1 := Scalar.cmpi .ne v10_r0 c0_i32_55_r0
  let v58_r0 : BitVec 1 := Scalar.andi true_56_r0 v57_r0
  let c0_i32_48_r0 : BitVec 32 := 0#32
  let c1_i32_49_r0 : BitVec 32 := 1#32
  let v49_r0 : BitVec 32 := Scalar.addi c0_i32_48_r0 c1_i32_49_r0
  let c1_i32_59_r0 : BitVec 32 := 1#32
  let v62_r0 : BitVec 32 := Scalar.addi v49_r0 c1_i32_59_r0
  let v63_r0 : BitVec 32 := Scalar.select v58_r0 v62_r0 v49_r0
  let c1_i32_67_r0 : BitVec 32 := 1#32
  let v76_r0 : BitVec 32 := Scalar.addi v63_r0 c1_i32_67_r0
  let v77_r0 : BitVec 32 := Scalar.select v72_r0 v76_r0 v63_r0
  let c1_i32_75_r0 : BitVec 32 := 1#32
  let v90_r0 : BitVec 32 := Scalar.addi v77_r0 c1_i32_75_r0
  let v91_r0 : BitVec 32 := Scalar.select v86_r0 v90_r0 v77_r0
  let c6_i32_138_r0 : BitVec 32 := 6#32
  let v155_r0 : BitVec 32 := Scalar.remui v91_r0 c6_i32_138_r0
  let c0_i32_140_r0 : BitVec 32 := 0#32
  let c0_i32_141_r0 : BitVec 32 := 0#32
  ![v155_r0.toNat, 0, 0]
def k0_off27 : Fin 2 → Nat :=
  let c256_i32_139_r0 : BitVec 32 := 256#32
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let v156_r0 : BitVec 32 := Scalar.muli c256_i32_139_r0 v25_r0
  let c0_i32_142_r0 : BitVec 32 := 0#32
  ![v156_r0.toNat, 0]
@[reducible] def k0_t1_loop : Scf.Loop 32 :=
  let c0_i32_89_r0 : BitVec 32 := 0#32
  let c32_i32_90_r0 : BitVec 32 := 32#32
  let v106_r0 : BitVec 32 := Scalar.addi c0_i32_89_r0 c32_i32_90_r0
  let c1_i32_91_r0 : BitVec 32 := 1#32
  ⟨c0_i32_89_r0, v106_r0, c1_i32_91_r0⟩
def k0_off28 (arg6_r0 : BitVec 32) : Fin 1 → Nat :=
  let c6_i32_233_r0 : BitVec 32 := 6#32
  let v324_r0 : BitVec 32 := Scalar.remui arg6_r0 c6_i32_233_r0
  ![v324_r0.toNat]
def k0_cond9 (k0_t1 : Fin k0_t1_loop.trips) (arg12_r0 : BitVec 32) : BitVec 1 :=
  let true_162_r0 : BitVec 1 := 1#1
  let true_157_r0 : BitVec 1 := 1#1
  let true_152_r0 : BitVec 1 := 1#1
  let true_147_r0 : BitVec 1 := 1#1
  let c1_i32_146_r0 : BitVec 32 := 1#32
  let v163_r0 : BitVec 32 := Scalar.addi arg12_r0 c1_i32_146_r0
  let v164_r0 : BitVec 32 := Scalar.select true_147_r0 v163_r0 arg12_r0
  let c32_i32_148_r0 : BitVec 32 := 32#32
  let v165_r0 : BitVec 1 := Scalar.cmpi .eq v164_r0 c32_i32_148_r0
  let c0_i32_149_r0 : BitVec 32 := 0#32
  let v166_r0 : BitVec 32 := Scalar.select v165_r0 c0_i32_149_r0 v164_r0
  let c1_i32_151_r0 : BitVec 32 := 1#32
  let v168_r0 : BitVec 32 := Scalar.addi v166_r0 c1_i32_151_r0
  let v169_r0 : BitVec 32 := Scalar.select true_152_r0 v168_r0 v166_r0
  let c32_i32_153_r0 : BitVec 32 := 32#32
  let v170_r0 : BitVec 1 := Scalar.cmpi .eq v169_r0 c32_i32_153_r0
  let c0_i32_154_r0 : BitVec 32 := 0#32
  let v171_r0 : BitVec 32 := Scalar.select v170_r0 c0_i32_154_r0 v169_r0
  let c1_i32_156_r0 : BitVec 32 := 1#32
  let v173_r0 : BitVec 32 := Scalar.addi v171_r0 c1_i32_156_r0
  let v174_r0 : BitVec 32 := Scalar.select true_157_r0 v173_r0 v171_r0
  let c32_i32_158_r0 : BitVec 32 := 32#32
  let v175_r0 : BitVec 1 := Scalar.cmpi .eq v174_r0 c32_i32_158_r0
  let c0_i32_159_r0 : BitVec 32 := 0#32
  let v176_r0 : BitVec 32 := Scalar.select v175_r0 c0_i32_159_r0 v174_r0
  let c1_i32_161_r0 : BitVec 32 := 1#32
  let v178_r0 : BitVec 32 := Scalar.addi v176_r0 c1_i32_161_r0
  let v179_r0 : BitVec 32 := Scalar.select true_162_r0 v178_r0 v176_r0
  let c32_i32_163_r0 : BitVec 32 := 32#32
  let v180_r0 : BitVec 1 := Scalar.cmpi .eq v179_r0 c32_i32_163_r0
  let c0_i32_164_r0 : BitVec 32 := 0#32
  let v181_r0 : BitVec 32 := Scalar.select v180_r0 c0_i32_164_r0 v179_r0
  let c0_i32_165_r0 : BitVec 32 := 0#32
  let v182_r0 : BitVec 32 := Scalar.addi v181_r0 c0_i32_165_r0
  let true_167_r0 : BitVec 1 := 1#1
  let c1_i32_166_r0 : BitVec 32 := 1#32
  let v183_r0 : BitVec 32 := Scalar.addi v181_r0 c1_i32_166_r0
  let v184_r0 : BitVec 32 := Scalar.select true_167_r0 v183_r0 v181_r0
  let c32_i32_168_r0 : BitVec 32 := 32#32
  let v185_r0 : BitVec 1 := Scalar.cmpi .eq v184_r0 c32_i32_168_r0
  let c0_i32_169_r0 : BitVec 32 := 0#32
  let v186_r0 : BitVec 32 := Scalar.select v185_r0 c0_i32_169_r0 v184_r0
  let c0_i32_170_r0 : BitVec 32 := 0#32
  let v187_r0 : BitVec 32 := Scalar.addi v186_r0 c0_i32_170_r0
  let v193_r0 : BitVec 1 := Scalar.cmpi .ne v182_r0 v187_r0
  let c0_i32_89_r0 : BitVec 32 := 0#32
  let c1_i32_91_r0 : BitVec 32 := 1#32
  let arg5_r0 : BitVec 32 := Scf.iv c0_i32_89_r0 c1_i32_91_r0 k0_t1
  let c27_i32_r0 : BitVec 32 := 27#32
  let v194_r0 : BitVec 1 := Scalar.cmpi .sge arg5_r0 c27_i32_r0
  let true_176_r0 : BitVec 1 := 1#1
  let v195_r0 : BitVec 1 := Scalar.xori v194_r0 true_176_r0
  let v196_r0 : BitVec 1 := Scalar.andi v193_r0 v195_r0
  let true_177_r0 : BitVec 1 := 1#1
  let v197_r0 : BitVec 1 := Scalar.andi v196_r0 true_177_r0
  let v198_r0 : BitVec 32 := Scalar.extui v197_r0
  let c0_i32_178_r0 : BitVec 32 := 0#32
  let v199_r0 : BitVec 1 := Scalar.cmpi .ne v198_r0 c0_i32_178_r0
  v199_r0

def k0_off29 (arg6_r0 : BitVec 32) : Fin 4 → Nat :=
  let c6_i32_233_r0 : BitVec 32 := 6#32
  let v324_r0 : BitVec 32 := Scalar.remui arg6_r0 c6_i32_233_r0
  let c0_i32_235_r0 : BitVec 32 := 0#32
  let c0_i32_236_r0 : BitVec 32 := 0#32
  let c0_i32_237_r0 : BitVec 32 := 0#32
  ![v324_r0.toNat, 0, 0, 0]
def k0_off30 (arg12_r0 : BitVec 32) : Fin 3 → Nat :=
  let c0_i32_238_r0 : BitVec 32 := 0#32
  let c256_i32_234_r0 : BitVec 32 := 256#32
  let true_167_r0 : BitVec 1 := 1#1
  let true_162_r0 : BitVec 1 := 1#1
  let true_157_r0 : BitVec 1 := 1#1
  let true_152_r0 : BitVec 1 := 1#1
  let true_147_r0 : BitVec 1 := 1#1
  let c1_i32_146_r0 : BitVec 32 := 1#32
  let v163_r0 : BitVec 32 := Scalar.addi arg12_r0 c1_i32_146_r0
  let v164_r0 : BitVec 32 := Scalar.select true_147_r0 v163_r0 arg12_r0
  let c32_i32_148_r0 : BitVec 32 := 32#32
  let v165_r0 : BitVec 1 := Scalar.cmpi .eq v164_r0 c32_i32_148_r0
  let c0_i32_149_r0 : BitVec 32 := 0#32
  let v166_r0 : BitVec 32 := Scalar.select v165_r0 c0_i32_149_r0 v164_r0
  let c1_i32_151_r0 : BitVec 32 := 1#32
  let v168_r0 : BitVec 32 := Scalar.addi v166_r0 c1_i32_151_r0
  let v169_r0 : BitVec 32 := Scalar.select true_152_r0 v168_r0 v166_r0
  let c32_i32_153_r0 : BitVec 32 := 32#32
  let v170_r0 : BitVec 1 := Scalar.cmpi .eq v169_r0 c32_i32_153_r0
  let c0_i32_154_r0 : BitVec 32 := 0#32
  let v171_r0 : BitVec 32 := Scalar.select v170_r0 c0_i32_154_r0 v169_r0
  let c1_i32_156_r0 : BitVec 32 := 1#32
  let v173_r0 : BitVec 32 := Scalar.addi v171_r0 c1_i32_156_r0
  let v174_r0 : BitVec 32 := Scalar.select true_157_r0 v173_r0 v171_r0
  let c32_i32_158_r0 : BitVec 32 := 32#32
  let v175_r0 : BitVec 1 := Scalar.cmpi .eq v174_r0 c32_i32_158_r0
  let c0_i32_159_r0 : BitVec 32 := 0#32
  let v176_r0 : BitVec 32 := Scalar.select v175_r0 c0_i32_159_r0 v174_r0
  let c1_i32_161_r0 : BitVec 32 := 1#32
  let v178_r0 : BitVec 32 := Scalar.addi v176_r0 c1_i32_161_r0
  let v179_r0 : BitVec 32 := Scalar.select true_162_r0 v178_r0 v176_r0
  let c32_i32_163_r0 : BitVec 32 := 32#32
  let v180_r0 : BitVec 1 := Scalar.cmpi .eq v179_r0 c32_i32_163_r0
  let c0_i32_164_r0 : BitVec 32 := 0#32
  let v181_r0 : BitVec 32 := Scalar.select v180_r0 c0_i32_164_r0 v179_r0
  let c1_i32_166_r0 : BitVec 32 := 1#32
  let v183_r0 : BitVec 32 := Scalar.addi v181_r0 c1_i32_166_r0
  let v184_r0 : BitVec 32 := Scalar.select true_167_r0 v183_r0 v181_r0
  let c32_i32_168_r0 : BitVec 32 := 32#32
  let v185_r0 : BitVec 1 := Scalar.cmpi .eq v184_r0 c32_i32_168_r0
  let c0_i32_169_r0 : BitVec 32 := 0#32
  let v186_r0 : BitVec 32 := Scalar.select v185_r0 c0_i32_169_r0 v184_r0
  let c0_i32_170_r0 : BitVec 32 := 0#32
  let v187_r0 : BitVec 32 := Scalar.addi v186_r0 c0_i32_170_r0
  let v325_r0 : BitVec 32 := Scalar.muli c256_i32_234_r0 v187_r0
  let c0_i32_239_r0 : BitVec 32 := 0#32
  ![0, v325_r0.toNat, 0]
def k0_off31 (arg8_r0 : BitVec 32) : Fin 1 → Nat :=
  let c6_i32_233_r0 : BitVec 32 := 6#32
  let v324_r0 : BitVec 32 := Scalar.remui arg8_r0 c6_i32_233_r0
  ![v324_r0.toNat]
def k0_cond10 (k0_t1 : Fin k0_t1_loop.trips) (arg12_r0 : BitVec 32) : BitVec 1 :=
  let true_162_r0 : BitVec 1 := 1#1
  let true_157_r0 : BitVec 1 := 1#1
  let true_152_r0 : BitVec 1 := 1#1
  let true_147_r0 : BitVec 1 := 1#1
  let c1_i32_146_r0 : BitVec 32 := 1#32
  let v163_r0 : BitVec 32 := Scalar.addi arg12_r0 c1_i32_146_r0
  let v164_r0 : BitVec 32 := Scalar.select true_147_r0 v163_r0 arg12_r0
  let c32_i32_148_r0 : BitVec 32 := 32#32
  let v165_r0 : BitVec 1 := Scalar.cmpi .eq v164_r0 c32_i32_148_r0
  let c0_i32_149_r0 : BitVec 32 := 0#32
  let v166_r0 : BitVec 32 := Scalar.select v165_r0 c0_i32_149_r0 v164_r0
  let c1_i32_151_r0 : BitVec 32 := 1#32
  let v168_r0 : BitVec 32 := Scalar.addi v166_r0 c1_i32_151_r0
  let v169_r0 : BitVec 32 := Scalar.select true_152_r0 v168_r0 v166_r0
  let c32_i32_153_r0 : BitVec 32 := 32#32
  let v170_r0 : BitVec 1 := Scalar.cmpi .eq v169_r0 c32_i32_153_r0
  let c0_i32_154_r0 : BitVec 32 := 0#32
  let v171_r0 : BitVec 32 := Scalar.select v170_r0 c0_i32_154_r0 v169_r0
  let c1_i32_156_r0 : BitVec 32 := 1#32
  let v173_r0 : BitVec 32 := Scalar.addi v171_r0 c1_i32_156_r0
  let v174_r0 : BitVec 32 := Scalar.select true_157_r0 v173_r0 v171_r0
  let c32_i32_158_r0 : BitVec 32 := 32#32
  let v175_r0 : BitVec 1 := Scalar.cmpi .eq v174_r0 c32_i32_158_r0
  let c0_i32_159_r0 : BitVec 32 := 0#32
  let v176_r0 : BitVec 32 := Scalar.select v175_r0 c0_i32_159_r0 v174_r0
  let c1_i32_161_r0 : BitVec 32 := 1#32
  let v178_r0 : BitVec 32 := Scalar.addi v176_r0 c1_i32_161_r0
  let v179_r0 : BitVec 32 := Scalar.select true_162_r0 v178_r0 v176_r0
  let c32_i32_163_r0 : BitVec 32 := 32#32
  let v180_r0 : BitVec 1 := Scalar.cmpi .eq v179_r0 c32_i32_163_r0
  let c0_i32_164_r0 : BitVec 32 := 0#32
  let v181_r0 : BitVec 32 := Scalar.select v180_r0 c0_i32_164_r0 v179_r0
  let c0_i32_165_r0 : BitVec 32 := 0#32
  let v182_r0 : BitVec 32 := Scalar.addi v181_r0 c0_i32_165_r0
  let true_167_r0 : BitVec 1 := 1#1
  let c1_i32_166_r0 : BitVec 32 := 1#32
  let v183_r0 : BitVec 32 := Scalar.addi v181_r0 c1_i32_166_r0
  let v184_r0 : BitVec 32 := Scalar.select true_167_r0 v183_r0 v181_r0
  let c32_i32_168_r0 : BitVec 32 := 32#32
  let v185_r0 : BitVec 1 := Scalar.cmpi .eq v184_r0 c32_i32_168_r0
  let c0_i32_169_r0 : BitVec 32 := 0#32
  let v186_r0 : BitVec 32 := Scalar.select v185_r0 c0_i32_169_r0 v184_r0
  let c0_i32_170_r0 : BitVec 32 := 0#32
  let v187_r0 : BitVec 32 := Scalar.addi v186_r0 c0_i32_170_r0
  let v203_r0 : BitVec 1 := Scalar.cmpi .ne v182_r0 v187_r0
  let c0_i32_89_r0 : BitVec 32 := 0#32
  let c1_i32_91_r0 : BitVec 32 := 1#32
  let arg5_r0 : BitVec 32 := Scf.iv c0_i32_89_r0 c1_i32_91_r0 k0_t1
  let c27_i32_181_r0 : BitVec 32 := 27#32
  let v204_r0 : BitVec 1 := Scalar.cmpi .sge arg5_r0 c27_i32_181_r0
  let true_182_r0 : BitVec 1 := 1#1
  let v205_r0 : BitVec 1 := Scalar.xori v204_r0 true_182_r0
  let v206_r0 : BitVec 1 := Scalar.andi v203_r0 v205_r0
  let true_183_r0 : BitVec 1 := 1#1
  let v207_r0 : BitVec 1 := Scalar.andi v206_r0 true_183_r0
  let v208_r0 : BitVec 32 := Scalar.extui v207_r0
  let c0_i32_184_r0 : BitVec 32 := 0#32
  let v209_r0 : BitVec 1 := Scalar.cmpi .ne v208_r0 c0_i32_184_r0
  v209_r0

def k0_off32 (arg8_r0 : BitVec 32) : Fin 3 → Nat :=
  let c6_i32_233_r0 : BitVec 32 := 6#32
  let v324_r0 : BitVec 32 := Scalar.remui arg8_r0 c6_i32_233_r0
  let c0_i32_235_r0 : BitVec 32 := 0#32
  let c0_i32_236_r0 : BitVec 32 := 0#32
  ![v324_r0.toNat, 0, 0]
def k0_off33 (arg12_r0 : BitVec 32) : Fin 2 → Nat :=
  let c256_i32_234_r0 : BitVec 32 := 256#32
  let true_167_r0 : BitVec 1 := 1#1
  let true_162_r0 : BitVec 1 := 1#1
  let true_157_r0 : BitVec 1 := 1#1
  let true_152_r0 : BitVec 1 := 1#1
  let true_147_r0 : BitVec 1 := 1#1
  let c1_i32_146_r0 : BitVec 32 := 1#32
  let v163_r0 : BitVec 32 := Scalar.addi arg12_r0 c1_i32_146_r0
  let v164_r0 : BitVec 32 := Scalar.select true_147_r0 v163_r0 arg12_r0
  let c32_i32_148_r0 : BitVec 32 := 32#32
  let v165_r0 : BitVec 1 := Scalar.cmpi .eq v164_r0 c32_i32_148_r0
  let c0_i32_149_r0 : BitVec 32 := 0#32
  let v166_r0 : BitVec 32 := Scalar.select v165_r0 c0_i32_149_r0 v164_r0
  let c1_i32_151_r0 : BitVec 32 := 1#32
  let v168_r0 : BitVec 32 := Scalar.addi v166_r0 c1_i32_151_r0
  let v169_r0 : BitVec 32 := Scalar.select true_152_r0 v168_r0 v166_r0
  let c32_i32_153_r0 : BitVec 32 := 32#32
  let v170_r0 : BitVec 1 := Scalar.cmpi .eq v169_r0 c32_i32_153_r0
  let c0_i32_154_r0 : BitVec 32 := 0#32
  let v171_r0 : BitVec 32 := Scalar.select v170_r0 c0_i32_154_r0 v169_r0
  let c1_i32_156_r0 : BitVec 32 := 1#32
  let v173_r0 : BitVec 32 := Scalar.addi v171_r0 c1_i32_156_r0
  let v174_r0 : BitVec 32 := Scalar.select true_157_r0 v173_r0 v171_r0
  let c32_i32_158_r0 : BitVec 32 := 32#32
  let v175_r0 : BitVec 1 := Scalar.cmpi .eq v174_r0 c32_i32_158_r0
  let c0_i32_159_r0 : BitVec 32 := 0#32
  let v176_r0 : BitVec 32 := Scalar.select v175_r0 c0_i32_159_r0 v174_r0
  let c1_i32_161_r0 : BitVec 32 := 1#32
  let v178_r0 : BitVec 32 := Scalar.addi v176_r0 c1_i32_161_r0
  let v179_r0 : BitVec 32 := Scalar.select true_162_r0 v178_r0 v176_r0
  let c32_i32_163_r0 : BitVec 32 := 32#32
  let v180_r0 : BitVec 1 := Scalar.cmpi .eq v179_r0 c32_i32_163_r0
  let c0_i32_164_r0 : BitVec 32 := 0#32
  let v181_r0 : BitVec 32 := Scalar.select v180_r0 c0_i32_164_r0 v179_r0
  let c1_i32_166_r0 : BitVec 32 := 1#32
  let v183_r0 : BitVec 32 := Scalar.addi v181_r0 c1_i32_166_r0
  let v184_r0 : BitVec 32 := Scalar.select true_167_r0 v183_r0 v181_r0
  let c32_i32_168_r0 : BitVec 32 := 32#32
  let v185_r0 : BitVec 1 := Scalar.cmpi .eq v184_r0 c32_i32_168_r0
  let c0_i32_169_r0 : BitVec 32 := 0#32
  let v186_r0 : BitVec 32 := Scalar.select v185_r0 c0_i32_169_r0 v184_r0
  let c0_i32_170_r0 : BitVec 32 := 0#32
  let v187_r0 : BitVec 32 := Scalar.addi v186_r0 c0_i32_170_r0
  let v325_r0 : BitVec 32 := Scalar.muli c256_i32_234_r0 v187_r0
  let c0_i32_237_r0 : BitVec 32 := 0#32
  ![v325_r0.toNat, 0]
def k0_off34 (arg7_r0 : BitVec 32) : Fin 1 → Nat :=
  let c6_i32_234_r0 : BitVec 32 := 6#32
  let v325_r0 : BitVec 32 := Scalar.remui arg7_r0 c6_i32_234_r0
  ![v325_r0.toNat]
def k0_cond11 (k0_t1 : Fin k0_t1_loop.trips) (arg12_r0 : BitVec 32) : BitVec 1 :=
  let c0_i32_140_r0 : BitVec 32 := 0#32
  let v157_r0 : BitVec 32 := Scalar.addi arg12_r0 c0_i32_140_r0
  let true_142_r0 : BitVec 1 := 1#1
  let c1_i32_141_r0 : BitVec 32 := 1#32
  let v158_r0 : BitVec 32 := Scalar.subi arg12_r0 c1_i32_141_r0
  let v159_r0 : BitVec 32 := Scalar.select true_142_r0 v158_r0 arg12_r0
  let c_m1_i32_143_r0 : BitVec 32 := 4294967295#32
  let v160_r0 : BitVec 1 := Scalar.cmpi .eq v159_r0 c_m1_i32_143_r0
  let c31_i32_144_r0 : BitVec 32 := 31#32
  let v161_r0 : BitVec 32 := Scalar.select v160_r0 c31_i32_144_r0 v159_r0
  let c0_i32_145_r0 : BitVec 32 := 0#32
  let v162_r0 : BitVec 32 := Scalar.addi v161_r0 c0_i32_145_r0
  let v217_r0 : BitVec 1 := Scalar.cmpi .ne v157_r0 v162_r0
  let c0_i32_89_r0 : BitVec 32 := 0#32
  let c1_i32_91_r0 : BitVec 32 := 1#32
  let arg5_r0 : BitVec 32 := Scf.iv c0_i32_89_r0 c1_i32_91_r0 k0_t1
  let c0_i32_138_r0 : BitVec 32 := 0#32
  let v155_r0 : BitVec 1 := Scalar.cmpi .eq arg5_r0 c0_i32_138_r0
  let v218_r0 : BitVec 1 := Scalar.ori v217_r0 v155_r0
  let c0_i32_189_r0 : BitVec 32 := 0#32
  let v219_r0 : BitVec 1 := Scalar.cmpi .sge arg5_r0 c0_i32_189_r0
  let v220_r0 : BitVec 1 := Scalar.andi v218_r0 v219_r0
  let v221_r0 : BitVec 32 := Scalar.extui v220_r0
  let c0_i32_190_r0 : BitVec 32 := 0#32
  let v222_r0 : BitVec 1 := Scalar.cmpi .ne v221_r0 c0_i32_190_r0
  v222_r0

def k0_off35 (arg7_r0 : BitVec 32) : Fin 4 → Nat :=
  let c6_i32_234_r0 : BitVec 32 := 6#32
  let v325_r0 : BitVec 32 := Scalar.remui arg7_r0 c6_i32_234_r0
  let c0_i32_235_r0 : BitVec 32 := 0#32
  let c0_i32_236_r0 : BitVec 32 := 0#32
  let c0_i32_237_r0 : BitVec 32 := 0#32
  ![v325_r0.toNat, 0, 0, 0]
def k0_off36 (arg12_r0 : BitVec 32) : Fin 3 → Nat :=
  let c0_i32_238_r0 : BitVec 32 := 0#32
  let c256_i32_233_r0 : BitVec 32 := 256#32
  let c0_i32_140_r0 : BitVec 32 := 0#32
  let v157_r0 : BitVec 32 := Scalar.addi arg12_r0 c0_i32_140_r0
  let v324_r0 : BitVec 32 := Scalar.muli c256_i32_233_r0 v157_r0
  let c0_i32_239_r0 : BitVec 32 := 0#32
  ![0, v324_r0.toNat, 0]
def k0_off37 (arg9_r0 : BitVec 32) : Fin 1 → Nat :=
  let c6_i32_234_r0 : BitVec 32 := 6#32
  let v325_r0 : BitVec 32 := Scalar.remui arg9_r0 c6_i32_234_r0
  ![v325_r0.toNat]
def k0_cond12 (k0_t1 : Fin k0_t1_loop.trips) (arg12_r0 : BitVec 32) : BitVec 1 :=
  let c0_i32_140_r0 : BitVec 32 := 0#32
  let v157_r0 : BitVec 32 := Scalar.addi arg12_r0 c0_i32_140_r0
  let true_142_r0 : BitVec 1 := 1#1
  let c1_i32_141_r0 : BitVec 32 := 1#32
  let v158_r0 : BitVec 32 := Scalar.subi arg12_r0 c1_i32_141_r0
  let v159_r0 : BitVec 32 := Scalar.select true_142_r0 v158_r0 arg12_r0
  let c_m1_i32_143_r0 : BitVec 32 := 4294967295#32
  let v160_r0 : BitVec 1 := Scalar.cmpi .eq v159_r0 c_m1_i32_143_r0
  let c31_i32_144_r0 : BitVec 32 := 31#32
  let v161_r0 : BitVec 32 := Scalar.select v160_r0 c31_i32_144_r0 v159_r0
  let c0_i32_145_r0 : BitVec 32 := 0#32
  let v162_r0 : BitVec 32 := Scalar.addi v161_r0 c0_i32_145_r0
  let v223_r0 : BitVec 1 := Scalar.cmpi .ne v157_r0 v162_r0
  let c0_i32_89_r0 : BitVec 32 := 0#32
  let c1_i32_91_r0 : BitVec 32 := 1#32
  let arg5_r0 : BitVec 32 := Scf.iv c0_i32_89_r0 c1_i32_91_r0 k0_t1
  let c0_i32_138_r0 : BitVec 32 := 0#32
  let v155_r0 : BitVec 1 := Scalar.cmpi .eq arg5_r0 c0_i32_138_r0
  let v224_r0 : BitVec 1 := Scalar.ori v223_r0 v155_r0
  let c0_i32_191_r0 : BitVec 32 := 0#32
  let v225_r0 : BitVec 1 := Scalar.cmpi .sge arg5_r0 c0_i32_191_r0
  let v226_r0 : BitVec 1 := Scalar.andi v224_r0 v225_r0
  let v227_r0 : BitVec 32 := Scalar.extui v226_r0
  let c0_i32_192_r0 : BitVec 32 := 0#32
  let v228_r0 : BitVec 1 := Scalar.cmpi .ne v227_r0 c0_i32_192_r0
  v228_r0

def k0_off38 (arg9_r0 : BitVec 32) : Fin 3 → Nat :=
  let c6_i32_234_r0 : BitVec 32 := 6#32
  let v325_r0 : BitVec 32 := Scalar.remui arg9_r0 c6_i32_234_r0
  let c0_i32_235_r0 : BitVec 32 := 0#32
  let c0_i32_236_r0 : BitVec 32 := 0#32
  ![v325_r0.toNat, 0, 0]
def k0_off39 (arg12_r0 : BitVec 32) : Fin 2 → Nat :=
  let c256_i32_233_r0 : BitVec 32 := 256#32
  let c0_i32_140_r0 : BitVec 32 := 0#32
  let v157_r0 : BitVec 32 := Scalar.addi arg12_r0 c0_i32_140_r0
  let v324_r0 : BitVec 32 := Scalar.muli c256_i32_233_r0 v157_r0
  let c0_i32_237_r0 : BitVec 32 := 0#32
  ![v324_r0.toNat, 0]
def k0_off40 (arg7_r0 : BitVec 32) : Fin 4 → Nat :=
  let c6_i32_195_r0 : BitVec 32 := 6#32
  let v235_r0 : BitVec 32 := Scalar.remui arg7_r0 c6_i32_195_r0
  let v238_r0 : Index := Scalar.indexCast v235_r0
  let c0_r0 : Index := 0#32
  let c0_198_r0 : Index := 0#32
  let c0_199_r0 : Index := 0#32
  ![v238_r0.toNat, 0, 0, 0]

def k0_chk2 (arg7_r0 : BitVec 32) : Prop :=
  (∀ a, (k0_off40 arg7_r0) a + S1x4x256x768.size a ≤ S6x4x256x768.size a)
theorem k0_off40_inb : ∀ (arg7_r0 : BitVec 32) (k0_hw2 : k0_chk2 arg7_r0), ∀ a, (k0_off40 arg7_r0) a + S1x4x256x768.size a ≤ S6x4x256x768.size a := fun arg7_r0 k0_hw2 => k0_hw2

def k0_off41 (arg9_r0 : BitVec 32) : Fin 3 → Nat :=
  let c6_i32_196_r0 : BitVec 32 := 6#32
  let v236_r0 : BitVec 32 := Scalar.remui arg9_r0 c6_i32_196_r0
  let v241_r0 : Index := Scalar.indexCast v236_r0
  let c0_200_r0 : Index := 0#32
  let c0_201_r0 : Index := 0#32
  ![v241_r0.toNat, 0, 0]

def k0_chk3 (arg9_r0 : BitVec 32) : Prop :=
  (∀ a, (k0_off41 arg9_r0) a + S1x256x768.size a ≤ S6x256x768.size a)
theorem k0_off41_inb : ∀ (arg9_r0 : BitVec 32) (k0_hw3 : k0_chk3 arg9_r0), ∀ a, (k0_off41 arg9_r0) a + S1x256x768.size a ≤ S6x256x768.size a := fun arg9_r0 k0_hw3 => k0_hw3

def k0_off42 (arg10_r0 : BitVec 32) : Fin 4 → Nat :=
  let c2_i32_197_r0 : BitVec 32 := 2#32
  let v237_r0 : BitVec 32 := Scalar.remui arg10_r0 c2_i32_197_r0
  let v271_r0 : Index := Scalar.indexCast v237_r0
  let c0_208_r0 : Index := 0#32
  let c0_209_r0 : Index := 0#32
  let c0_210_r0 : Index := 0#32
  ![v271_r0.toNat, 0, 0, 0]

def k0_chk4 (arg10_r0 : BitVec 32) : Prop :=
  (∀ a, (k0_off42 arg10_r0) a + S1x4x256x768.size a ≤ S2x4x256x768.size a)
theorem k0_off42_inb : ∀ (arg10_r0 : BitVec 32) (k0_hw4 : k0_chk4 arg10_r0), ∀ a, (k0_off42 arg10_r0) a + S1x4x256x768.size a ≤ S2x4x256x768.size a := fun arg10_r0 k0_hw4 => k0_hw4

def k0_off43 (arg10_r0 : BitVec 32) : Fin 1 → Nat :=
  let c2_i32_233_r0 : BitVec 32 := 2#32
  let v324_r0 : BitVec 32 := Scalar.remui arg10_r0 c2_i32_233_r0
  ![v324_r0.toNat]
def k0_cond16 (k0_t1 : Fin k0_t1_loop.trips) (arg12_r0 : BitVec 32) : BitVec 1 :=
  let c0_i32_140_r0 : BitVec 32 := 0#32
  let v157_r0 : BitVec 32 := Scalar.addi arg12_r0 c0_i32_140_r0
  let true_147_r0 : BitVec 1 := 1#1
  let c1_i32_146_r0 : BitVec 32 := 1#32
  let v163_r0 : BitVec 32 := Scalar.addi arg12_r0 c1_i32_146_r0
  let v164_r0 : BitVec 32 := Scalar.select true_147_r0 v163_r0 arg12_r0
  let c32_i32_148_r0 : BitVec 32 := 32#32
  let v165_r0 : BitVec 1 := Scalar.cmpi .eq v164_r0 c32_i32_148_r0
  let c0_i32_149_r0 : BitVec 32 := 0#32
  let v166_r0 : BitVec 32 := Scalar.select v165_r0 c0_i32_149_r0 v164_r0
  let c0_i32_150_r0 : BitVec 32 := 0#32
  let v167_r0 : BitVec 32 := Scalar.addi v166_r0 c0_i32_150_r0
  let v285_r0 : BitVec 1 := Scalar.cmpi .ne v157_r0 v167_r0
  let c0_i32_89_r0 : BitVec 32 := 0#32
  let c1_i32_91_r0 : BitVec 32 := 1#32
  let arg5_r0 : BitVec 32 := Scf.iv c0_i32_89_r0 c1_i32_91_r0 k0_t1
  let c31_i32_139_r0 : BitVec 32 := 31#32
  let v156_r0 : BitVec 1 := Scalar.cmpi .eq arg5_r0 c31_i32_139_r0
  let v286_r0 : BitVec 1 := Scalar.ori v285_r0 v156_r0
  let v287_r0 : BitVec 32 := Scalar.extui v286_r0
  let c0_i32_214_r0 : BitVec 32 := 0#32
  let v288_r0 : BitVec 1 := Scalar.cmpi .ne v287_r0 c0_i32_214_r0
  v288_r0

def k0_off44 (arg12_r0 : BitVec 32) : Fin 3 → Nat :=
  let c0_i32_235_r0 : BitVec 32 := 0#32
  let c256_i32_234_r0 : BitVec 32 := 256#32
  let c0_i32_140_r0 : BitVec 32 := 0#32
  let v157_r0 : BitVec 32 := Scalar.addi arg12_r0 c0_i32_140_r0
  let v325_r0 : BitVec 32 := Scalar.muli c256_i32_234_r0 v157_r0
  let c0_i32_236_r0 : BitVec 32 := 0#32
  ![0, v325_r0.toNat, 0]
def k0_off45 (arg10_r0 : BitVec 32) : Fin 4 → Nat :=
  let c2_i32_233_r0 : BitVec 32 := 2#32
  let v324_r0 : BitVec 32 := Scalar.remui arg10_r0 c2_i32_233_r0
  let c0_i32_237_r0 : BitVec 32 := 0#32
  let c0_i32_238_r0 : BitVec 32 := 0#32
  let c0_i32_239_r0 : BitVec 32 := 0#32
  ![v324_r0.toNat, 0, 0, 0]
def k0_off46 (arg11_r0 : BitVec 32) : Fin 1 → Nat :=
  let c2_i32_233_r0 : BitVec 32 := 2#32
  let v324_r0 : BitVec 32 := Scalar.remui arg11_r0 c2_i32_233_r0
  ![v324_r0.toNat]
def k0_cond19 (k0_t1 : Fin k0_t1_loop.trips) (arg12_r0 : BitVec 32) : BitVec 1 :=
  let c0_i32_140_r0 : BitVec 32 := 0#32
  let v157_r0 : BitVec 32 := Scalar.addi arg12_r0 c0_i32_140_r0
  let true_142_r0 : BitVec 1 := 1#1
  let c1_i32_141_r0 : BitVec 32 := 1#32
  let v158_r0 : BitVec 32 := Scalar.subi arg12_r0 c1_i32_141_r0
  let v159_r0 : BitVec 32 := Scalar.select true_142_r0 v158_r0 arg12_r0
  let c_m1_i32_143_r0 : BitVec 32 := 4294967295#32
  let v160_r0 : BitVec 1 := Scalar.cmpi .eq v159_r0 c_m1_i32_143_r0
  let c31_i32_144_r0 : BitVec 32 := 31#32
  let v161_r0 : BitVec 32 := Scalar.select v160_r0 c31_i32_144_r0 v159_r0
  let c0_i32_145_r0 : BitVec 32 := 0#32
  let v162_r0 : BitVec 32 := Scalar.addi v161_r0 c0_i32_145_r0
  let v304_r0 : BitVec 1 := Scalar.cmpi .ne v157_r0 v162_r0
  let c0_i32_89_r0 : BitVec 32 := 0#32
  let c1_i32_91_r0 : BitVec 32 := 1#32
  let arg5_r0 : BitVec 32 := Scf.iv c0_i32_89_r0 c1_i32_91_r0 k0_t1
  let c0_i32_138_r0 : BitVec 32 := 0#32
  let v155_r0 : BitVec 1 := Scalar.cmpi .eq arg5_r0 c0_i32_138_r0
  let true_223_r0 : BitVec 1 := 1#1
  let v305_r0 : BitVec 1 := Scalar.xori v155_r0 true_223_r0
  let v306_r0 : BitVec 1 := Scalar.andi v304_r0 v305_r0
  let v307_r0 : BitVec 32 := Scalar.extui v306_r0
  let c0_i32_224_r0 : BitVec 32 := 0#32
  let v308_r0 : BitVec 1 := Scalar.cmpi .ne v307_r0 c0_i32_224_r0
  v308_r0

def k0_off47 (arg12_r0 : BitVec 32) : Fin 3 → Nat :=
  let c0_i32_235_r0 : BitVec 32 := 0#32
  let c256_i32_234_r0 : BitVec 32 := 256#32
  let true_142_r0 : BitVec 1 := 1#1
  let c1_i32_141_r0 : BitVec 32 := 1#32
  let v158_r0 : BitVec 32 := Scalar.subi arg12_r0 c1_i32_141_r0
  let v159_r0 : BitVec 32 := Scalar.select true_142_r0 v158_r0 arg12_r0
  let c_m1_i32_143_r0 : BitVec 32 := 4294967295#32
  let v160_r0 : BitVec 1 := Scalar.cmpi .eq v159_r0 c_m1_i32_143_r0
  let c31_i32_144_r0 : BitVec 32 := 31#32
  let v161_r0 : BitVec 32 := Scalar.select v160_r0 c31_i32_144_r0 v159_r0
  let c0_i32_145_r0 : BitVec 32 := 0#32
  let v162_r0 : BitVec 32 := Scalar.addi v161_r0 c0_i32_145_r0
  let v325_r0 : BitVec 32 := Scalar.muli c256_i32_234_r0 v162_r0
  let c0_i32_236_r0 : BitVec 32 := 0#32
  ![0, v325_r0.toNat, 0]
def k0_off48 (arg11_r0 : BitVec 32) : Fin 4 → Nat :=
  let c2_i32_233_r0 : BitVec 32 := 2#32
  let v324_r0 : BitVec 32 := Scalar.remui arg11_r0 c2_i32_233_r0
  let c0_i32_237_r0 : BitVec 32 := 0#32
  let c0_i32_238_r0 : BitVec 32 := 0#32
  let c0_i32_239_r0 : BitVec 32 := 0#32
  ![v324_r0.toNat, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) : Prop :=
  (∀ (k0_h9 : k0_cond9 k0_t1 arg12_r0 = 1#1), ∀ a, (k0_off28 arg6_r0) a + S1.size a ≤ S6.size a) ∧
  (∀ (k0_h9 : k0_cond9 k0_t1 arg12_r0 = 1#1), ∀ a, (k0_off29 arg6_r0) a + S1x4x256x768.size a ≤ S6x4x256x768.size a) ∧
  (∀ (k0_h9 : k0_cond9 k0_t1 arg12_r0 = 1#1), ∀ a, (k0_off30 arg12_r0) a + S4x256x768.size a ≤ S4x8192x768.size a) ∧
  (∀ (k0_h10 : k0_cond10 k0_t1 arg12_r0 = 1#1), ∀ a, (k0_off31 arg8_r0) a + S1.size a ≤ S6.size a) ∧
  (∀ (k0_h10 : k0_cond10 k0_t1 arg12_r0 = 1#1), ∀ a, (k0_off32 arg8_r0) a + S1x256x768.size a ≤ S6x256x768.size a) ∧
  (∀ (k0_h10 : k0_cond10 k0_t1 arg12_r0 = 1#1), ∀ a, (k0_off33 arg12_r0) a + S256x768.size a ≤ S8192x768.size a) ∧
  (∀ (k0_h11 : k0_cond11 k0_t1 arg12_r0 = 1#1), ∀ a, (k0_off34 arg7_r0) a + S1.size a ≤ S6.size a) ∧
  (∀ (k0_h11 : k0_cond11 k0_t1 arg12_r0 = 1#1), ∀ a, (k0_off35 arg7_r0) a + S1x4x256x768.size a ≤ S6x4x256x768.size a) ∧
  (∀ (k0_h11 : k0_cond11 k0_t1 arg12_r0 = 1#1), ∀ a, (k0_off36 arg12_r0) a + S4x256x768.size a ≤ S4x8192x768.size a) ∧
  (∀ (k0_h12 : k0_cond12 k0_t1 arg12_r0 = 1#1), ∀ a, (k0_off37 arg9_r0) a + S1.size a ≤ S6.size a) ∧
  (∀ (k0_h12 : k0_cond12 k0_t1 arg12_r0 = 1#1), ∀ a, (k0_off38 arg9_r0) a + S1x256x768.size a ≤ S6x256x768.size a) ∧
  (∀ (k0_h12 : k0_cond12 k0_t1 arg12_r0 = 1#1), ∀ a, (k0_off39 arg12_r0) a + S256x768.size a ≤ S8192x768.size a) ∧
  (∀ (k0_h16 : k0_cond16 k0_t1 arg12_r0 = 1#1), ∀ a, (k0_off43 arg10_r0) a + S1.size a ≤ S2.size a) ∧
  (∀ (k0_h16 : k0_cond16 k0_t1 arg12_r0 = 1#1), ∀ a, (k0_off44 arg12_r0) a + S4x256x768.size a ≤ S4x8192x768.size a) ∧
  (∀ (k0_h16 : k0_cond16 k0_t1 arg12_r0 = 1#1), ∀ a, (k0_off45 arg10_r0) a + S1x4x256x768.size a ≤ S2x4x256x768.size a) ∧
  (∀ (k0_h19 : k0_cond19 k0_t1 arg12_r0 = 1#1), ∀ a, (k0_off46 arg11_r0) a + S1.size a ≤ S2.size a) ∧
  (∀ (k0_h19 : k0_cond19 k0_t1 arg12_r0 = 1#1), ∀ a, (k0_off47 arg12_r0) a + S4x256x768.size a ≤ S4x8192x768.size a) ∧
  (∀ (k0_h19 : k0_cond19 k0_t1 arg12_r0 = 1#1), ∀ a, (k0_off48 arg11_r0) a + S1x4x256x768.size a ≤ S2x4x256x768.size a)
theorem k0_off28_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off28 arg6_r0) a + S1.size a ≤ S6.size a := fun k0_t1 arg6_r0 arg7_r0 arg8_r0 arg9_r0 arg10_r0 arg11_r0 arg12_r0 k0_hw1 k0_h9 => k0_hw1.1 k0_h9
theorem k0_off29_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off29 arg6_r0) a + S1x4x256x768.size a ≤ S6x4x256x768.size a := fun k0_t1 arg6_r0 arg7_r0 arg8_r0 arg9_r0 arg10_r0 arg11_r0 arg12_r0 k0_hw1 k0_h9 => k0_hw1.2.1 k0_h9
theorem k0_off30_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h9 : k0_cond9 k0_t1 arg12_r0 = 1#1), ∀ a, (k0_off30 arg12_r0) a + S4x256x768.size a ≤ S4x8192x768.size a := fun k0_t1 arg6_r0 arg7_r0 arg8_r0 arg9_r0 arg10_r0 arg11_r0 arg12_r0 k0_hw1 k0_h9 => k0_hw1.2.2.1 k0_h9
theorem k0_off31_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h10 : k0_cond10 k0_t1 arg12_r0 = 1#1), ∀ a, (k0_off31 arg8_r0) a + S1.size a ≤ S6.size a := fun k0_t1 arg6_r0 arg7_r0 arg8_r0 arg9_r0 arg10_r0 arg11_r0 arg12_r0 k0_hw1 k0_h10 => k0_hw1.2.2.2.1 k0_h10
theorem k0_off32_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h10 : k0_cond10 k0_t1 arg12_r0 = 1#1), ∀ a, (k0_off32 arg8_r0) a + S1x256x768.size a ≤ S6x256x768.size a := fun k0_t1 arg6_r0 arg7_r0 arg8_r0 arg9_r0 arg10_r0 arg11_r0 arg12_r0 k0_hw1 k0_h10 => k0_hw1.2.2.2.2.1 k0_h10
theorem k0_off33_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h10 : k0_cond10 k0_t1 arg12_r0 = 1#1), ∀ a, (k0_off33 arg12_r0) a + S256x768.size a ≤ S8192x768.size a := fun k0_t1 arg6_r0 arg7_r0 arg8_r0 arg9_r0 arg10_r0 arg11_r0 arg12_r0 k0_hw1 k0_h10 => k0_hw1.2.2.2.2.2.1 k0_h10
theorem k0_off34_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off34 arg7_r0) a + S1.size a ≤ S6.size a := fun k0_t1 arg6_r0 arg7_r0 arg8_r0 arg9_r0 arg10_r0 arg11_r0 arg12_r0 k0_hw1 k0_h11 => k0_hw1.2.2.2.2.2.2.1 k0_h11
theorem k0_off35_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off35 arg7_r0) a + S1x4x256x768.size a ≤ S6x4x256x768.size a := fun k0_t1 arg6_r0 arg7_r0 arg8_r0 arg9_r0 arg10_r0 arg11_r0 arg12_r0 k0_hw1 k0_h11 => k0_hw1.2.2.2.2.2.2.2.1 k0_h11
theorem k0_off36_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h11 : k0_cond11 k0_t1 arg12_r0 = 1#1), ∀ a, (k0_off36 arg12_r0) a + S4x256x768.size a ≤ S4x8192x768.size a := fun k0_t1 arg6_r0 arg7_r0 arg8_r0 arg9_r0 arg10_r0 arg11_r0 arg12_r0 k0_hw1 k0_h11 => k0_hw1.2.2.2.2.2.2.2.2.1 k0_h11
theorem k0_off37_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off37 arg9_r0) a + S1.size a ≤ S6.size a := fun k0_t1 arg6_r0 arg7_r0 arg8_r0 arg9_r0 arg10_r0 arg11_r0 arg12_r0 k0_hw1 k0_h12 => k0_hw1.2.2.2.2.2.2.2.2.2.1 k0_h12
theorem k0_off38_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off38 arg9_r0) a + S1x256x768.size a ≤ S6x256x768.size a := fun k0_t1 arg6_r0 arg7_r0 arg8_r0 arg9_r0 arg10_r0 arg11_r0 arg12_r0 k0_hw1 k0_h12 => k0_hw1.2.2.2.2.2.2.2.2.2.2.1 k0_h12
theorem k0_off39_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h12 : k0_cond12 k0_t1 arg12_r0 = 1#1), ∀ a, (k0_off39 arg12_r0) a + S256x768.size a ≤ S8192x768.size a := fun k0_t1 arg6_r0 arg7_r0 arg8_r0 arg9_r0 arg10_r0 arg11_r0 arg12_r0 k0_hw1 k0_h12 => k0_hw1.2.2.2.2.2.2.2.2.2.2.2.1 k0_h12
theorem k0_off43_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h16 : k0_cond16 k0_t1 arg12_r0 = 1#1), ∀ a, (k0_off43 arg10_r0) a + S1.size a ≤ S2.size a := fun k0_t1 arg6_r0 arg7_r0 arg8_r0 arg9_r0 arg10_r0 arg11_r0 arg12_r0 k0_hw1 k0_h16 => k0_hw1.2.2.2.2.2.2.2.2.2.2.2.2.1 k0_h16
theorem k0_off44_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h16 : k0_cond16 k0_t1 arg12_r0 = 1#1), ∀ a, (k0_off44 arg12_r0) a + S4x256x768.size a ≤ S4x8192x768.size a := fun k0_t1 arg6_r0 arg7_r0 arg8_r0 arg9_r0 arg10_r0 arg11_r0 arg12_r0 k0_hw1 k0_h16 => k0_hw1.2.2.2.2.2.2.2.2.2.2.2.2.2.1 k0_h16
theorem k0_off45_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h16 : k0_cond16 k0_t1 arg12_r0 = 1#1), ∀ a, (k0_off45 arg10_r0) a + S1x4x256x768.size a ≤ S2x4x256x768.size a := fun k0_t1 arg6_r0 arg7_r0 arg8_r0 arg9_r0 arg10_r0 arg11_r0 arg12_r0 k0_hw1 k0_h16 => k0_hw1.2.2.2.2.2.2.2.2.2.2.2.2.2.2.1 k0_h16
theorem k0_off46_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h19 : k0_cond19 k0_t1 arg12_r0 = 1#1), ∀ a, (k0_off46 arg11_r0) a + S1.size a ≤ S2.size a := fun k0_t1 arg6_r0 arg7_r0 arg8_r0 arg9_r0 arg10_r0 arg11_r0 arg12_r0 k0_hw1 k0_h19 => k0_hw1.2.2.2.2.2.2.2.2.2.2.2.2.2.2.2.1 k0_h19
theorem k0_off47_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h19 : k0_cond19 k0_t1 arg12_r0 = 1#1), ∀ a, (k0_off47 arg12_r0) a + S4x256x768.size a ≤ S4x8192x768.size a := fun k0_t1 arg6_r0 arg7_r0 arg8_r0 arg9_r0 arg10_r0 arg11_r0 arg12_r0 k0_hw1 k0_h19 => k0_hw1.2.2.2.2.2.2.2.2.2.2.2.2.2.2.2.2.1 k0_h19
theorem k0_off48_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (k0_hw1 : k0_chk1 k0_t1 arg6_r0 arg7_r0 arg8_r0 arg9_r0 arg10_r0 arg11_r0 arg12_r0), ∀ (k0_h19 : k0_cond19 k0_t1 arg12_r0 = 1#1), ∀ a, (k0_off48 arg11_r0) a + S1x4x256x768.size a ≤ S2x4x256x768.size a := fun k0_t1 arg6_r0 arg7_r0 arg8_r0 arg9_r0 arg10_r0 arg11_r0 arg12_r0 k0_hw1 k0_h19 => k0_hw1.2.2.2.2.2.2.2.2.2.2.2.2.2.2.2.2.2 k0_h19

def k0_off49 (v107_5_r0 : BitVec 32) : Fin 1 → Nat :=
  let c2_i32_r0 : BitVec 32 := 2#32
  let v148_r0 : BitVec 32 := Scalar.remui v107_5_r0 c2_i32_r0
  ![v148_r0.toNat]

def k0_off50 (v107_6_r0 : BitVec 32) : Fin 3 → Nat :=
  let c0_i32_133_r0 : BitVec 32 := 0#32
  let c256_i32_r0 : BitVec 32 := 256#32
  let true_94_r0 : BitVec 1 := 1#1
  let c1_i32_93_r0 : BitVec 32 := 1#32
  let v108_r0 : BitVec 32 := Scalar.subi v107_6_r0 c1_i32_93_r0
  let v109_r0 : BitVec 32 := Scalar.select true_94_r0 v108_r0 v107_6_r0
  let c_m1_i32_95_r0 : BitVec 32 := 4294967295#32
  let v110_r0 : BitVec 1 := Scalar.cmpi .eq v109_r0 c_m1_i32_95_r0
  let c31_i32_96_r0 : BitVec 32 := 31#32
  let v111_r0 : BitVec 32 := Scalar.select v110_r0 c31_i32_96_r0 v109_r0
  let c0_i32_97_r0 : BitVec 32 := 0#32
  let v112_r0 : BitVec 32 := Scalar.addi v111_r0 c0_i32_97_r0
  let v149_r0 : BitVec 32 := Scalar.muli c256_i32_r0 v112_r0
  let c0_i32_134_r0 : BitVec 32 := 0#32
  ![0, v149_r0.toNat, 0]

def k0_chk6 (v107_6_r0 : BitVec 32) : Prop :=
  (∀ a, (k0_off50 v107_6_r0) a + S4x256x768.size a ≤ S4x8192x768.size a)
theorem k0_off50_inb : ∀ (v107_6_r0 : BitVec 32) (k0_hw6 : k0_chk6 v107_6_r0), ∀ a, (k0_off50 v107_6_r0) a + S4x256x768.size a ≤ S4x8192x768.size a := fun v107_6_r0 k0_hw6 => k0_hw6

def k0_off51 (v107_5_r0 : BitVec 32) : Fin 4 → Nat :=
  let c2_i32_r0 : BitVec 32 := 2#32
  let v148_r0 : BitVec 32 := Scalar.remui v107_5_r0 c2_i32_r0
  let c0_i32_135_r0 : BitVec 32 := 0#32
  let c0_i32_136_r0 : BitVec 32 := 0#32
  let c0_i32_137_r0 : BitVec 32 := 0#32
  ![v148_r0.toNat, 0, 0, 0]

def k0_chk5 (v107_5_r0 : BitVec 32) : Prop :=
  (∀ a, (k0_off49 v107_5_r0) a + S1.size a ≤ S2.size a) ∧
  (∀ a, (k0_off51 v107_5_r0) a + S1x4x256x768.size a ≤ S2x4x256x768.size a)
theorem k0_off49_inb : ∀ (v107_5_r0 : BitVec 32) (k0_hw5 : k0_chk5 v107_5_r0), ∀ a, (k0_off49 v107_5_r0) a + S1.size a ≤ S2.size a := fun v107_5_r0 k0_hw5 => k0_hw5.1
theorem k0_off51_inb : ∀ (v107_5_r0 : BitVec 32) (k0_hw5 : k0_chk5 v107_5_r0), ∀ a, (k0_off51 v107_5_r0) a + S1x4x256x768.size a ≤ S2x4x256x768.size a := fun v107_5_r0 k0_hw5 => k0_hw5.2

abbrev stage0_0 : Fin 1 → Memref sig .tc .vmem S768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x8192x768 : Shape := ⟨3, ![4, 8192, 768]⟩
abbrev S4x8192 : Shape := ⟨2, ![4, 8192]⟩
abbrev S8192x768 : Shape := ⟨2, ![8192, 768]⟩
abbrev S768 : Shape := ⟨1, ![768]⟩
abbrev S8192 : Shape := ⟨1, ![8192]⟩
abbrev S1x8192 : Shape := ⟨2, ![1, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 61
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192, .i32⟩
  | .hbm, ⟨2, _⟩ => ⟨S8192x768, .f32⟩
  | .hbm, ⟨3, _⟩ => ⟨S768, .f32⟩
  | .hbm, ⟨4, _⟩ => ⟨S768, .f32⟩
  | .hbm, ⟨5, _⟩ => ⟨S8192, .i32⟩
  | .hbm, ⟨6, _⟩ => ⟨S1x8192, .i32⟩
  | .hbm, ⟨7, _⟩ => ⟨S4x8192, .i32⟩
  | .hbm, ⟨8, _⟩ => ⟨S_, .i32⟩
  | .hbm, ⟨9, _⟩ => ⟨S4x8192, .i32⟩
  | .hbm, ⟨10, _⟩ => ⟨S4x8192, .i1⟩
  | .hbm, ⟨11, _⟩ => ⟨S_, .i32⟩
  | .hbm, ⟨12, _⟩ => ⟨S4x8192, .i32⟩
  | .hbm, ⟨13, _⟩ => ⟨S4x8192, .i32⟩
  | .hbm, ⟨14, _⟩ => ⟨S4x8192, .i32⟩
  | .hbm, ⟨15, _⟩ => ⟨S4x8192x1, .i32⟩
  | .hbm, ⟨16, _⟩ => ⟨S1, .i32⟩
  | .hbm, ⟨17, _⟩ => ⟨S_, .i32⟩
  | .hbm, ⟨18, _⟩ => ⟨S4x8192x1, .i32⟩
  | .hbm, ⟨19, _⟩ => ⟨S4x8192x1, .i1⟩
  | .hbm, ⟨20, _⟩ => ⟨S1x1x1, .i32⟩
  | .hbm, ⟨21, _⟩ => ⟨S4x8192x1, .i32⟩
  | .hbm, ⟨22, _⟩ => ⟨S4x8192x1, .i1⟩
  | .hbm, ⟨23, _⟩ => ⟨S4x8192x1, .i1⟩
  | .hbm, ⟨24, _⟩ => ⟨S_, .i1⟩
  | .hbm, ⟨25, _⟩ => ⟨S4x8192, .i1⟩
  | .hbm, ⟨26, _⟩ => ⟨S4x8192x768, .f32⟩
  | .hbm, ⟨27, _⟩ => ⟨S4x8192x768, .i1⟩
  | .hbm, ⟨28, _⟩ => ⟨S_, .f32⟩
  | .hbm, ⟨29, _⟩ => ⟨S4x8192x768, .f32⟩
  | .hbm, ⟨30, _⟩ => ⟨S4x8192x768, .f32⟩
  | .hbm, ⟨31, _⟩ => ⟨S4x8192x768, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x768, .f32⟩
  | .hbm, ⟨39, _⟩ => ⟨S4x8192x768, .f32⟩
  | .hbm, ⟨40, _⟩ => ⟨S4x8192x768, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x768, .f32⟩
  | .hbm, ⟨48, _⟩ => ⟨S4x8192x768, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x768, .f32⟩
  | .hbm, ⟨54, _⟩ => ⟨S4x8192x768, .f32⟩
  | .hbm, ⟨55, _⟩ => ⟨S1x1x768, .f32⟩
  | .hbm, ⟨56, _⟩ => ⟨S4x8192x768, .f32⟩
  | .hbm, ⟨57, _⟩ => ⟨S4x8192x768, .f32⟩
  | .hbm, ⟨58, _⟩ => ⟨S1x1x768, .f32⟩
  | .hbm, ⟨59, _⟩ => ⟨S4x8192x768, .f32⟩
  | .hbm, ⟨60, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]
-- ==== Proof.Words.lean ====
/-
  Hand-written. The words the kernel computes: where each copy's source, destination and semaphore
  sit, which copies a trip of the loop makes, and the counters the loop carries, all as plain
  functions of the trip's number. Trip `k` works on block `k`: rows `256 k` to `256 k + 255`.
-/
module

public import proofs.«01_k».proof.Proof.Gen.KernelIdeal.Skeleton

@[expose] public section

noncomputable section

namespace Cert.KernelIdeal.Hand

open Cert.KernelIdeal Cert.KernelIdeal.Gen
open Idealize.ShloMosaic

/-- The word of a number. -/
abbrev w (n : ℕ) : BitVec 32 := BitVec.ofNat 32 n
/-- How many blocks have been fetched before trip `k`: five ahead, 32 at most. -/
abbrev fetched (k : ℕ) : BitVec 32 := w (min (k + 5) 32)
/-- The grid coordinate the loop carries, which wraps to 0 after the last trip. -/
abbrev coord (k : ℕ) : BitVec 32 := w (k % 32)

/-- Every bound the trip assumes of its words holds. -/
theorem chk1_at : ∀ k : Fin k0_t1_loop.trips,
    k0_chk1 k (fetched k) (w k) (fetched k) (w k) (w k) (w (k - 1)) (coord k) := by decide +kernel
theorem chk2_at : ∀ k : Fin k0_t1_loop.trips, k0_chk2 (w k) := by decide +kernel
theorem chk3_at : ∀ k : Fin k0_t1_loop.trips, k0_chk3 (w k) := by decide +kernel
theorem chk4_at : ∀ k : Fin k0_t1_loop.trips, k0_chk4 (w k) := by decide +kernel
theorem chk5_end : k0_chk5 (w 31) := by decide +kernel
theorem chk6_end : k0_chk6 (coord 32) := by decide +kernel

/-- A trip fetches the block five ahead when there is one, -/
theorem cond9_at : ∀ k : Fin k0_t1_loop.trips, (k0_cond9 k (coord k) = 1#1) ↔ k.val + 5 < 32 := by decide +kernel
theorem cond10_at : ∀ k : Fin k0_t1_loop.trips, (k0_cond10 k (coord k) = 1#1) ↔ k.val + 5 < 32 := by decide +kernel
/-- always awaits its own, -/
theorem cond11_at : ∀ k : Fin k0_t1_loop.trips, k0_cond11 k (coord k) = 1#1 := by decide +kernel
theorem cond12_at : ∀ k : Fin k0_t1_loop.trips, k0_cond12 k (coord k) = 1#1 := by decide +kernel
/-- always sends its result, -/
theorem cond16_at : ∀ k : Fin k0_t1_loop.trips, k0_cond16 k (coord k) = 1#1 := by decide +kernel
/-- and awaits the previous trip's result when there was one. -/
theorem cond19_at : ∀ k : Fin k0_t1_loop.trips, (k0_cond19 k (coord k) = 1#1) ↔ 0 < k.val := by decide +kernel
theorem cond_start : k0_cond1 = 1#1 ∧ k0_cond2 = 1#1 ∧ k0_cond3 = 1#1 ∧ k0_cond4 = 1#1 ∧ k0_cond5 = 1#1
    ∧ k0_cond6 = 1#1 ∧ k0_cond7 = 1#1 ∧ k0_cond8 = 1#1 := by decide +kernel

/-- The five blocks fetched before the loop: block `n` goes to slot `n`. -/
theorem off_start0 : k0_off1 = ![0] ∧ k0_off2 = ![0, 0, 0, 0] ∧ k0_off3 = ![0, 0, 0] := by decide +kernel
theorem off_start1 : k0_off4 = ![1] ∧ k0_off5 = ![1, 0, 0, 0] ∧ k0_off6 = ![0, 256 * 1, 0]
    ∧ k0_off7 = ![1] ∧ k0_off8 = ![1, 0, 0] ∧ k0_off9 = ![256 * 1, 0] := by decide +kernel
theorem off_start2 : k0_off10 = ![2] ∧ k0_off11 = ![2, 0, 0, 0] ∧ k0_off12 = ![0, 256 * 2, 0]
    ∧ k0_off13 = ![2] ∧ k0_off14 = ![2, 0, 0] ∧ k0_off15 = ![256 * 2, 0] := by decide +kernel
theorem off_start3 : k0_off16 = ![3] ∧ k0_off17 = ![3, 0, 0, 0] ∧ k0_off18 = ![0, 256 * 3, 0]
    ∧ k0_off19 = ![3] ∧ k0_off20 = ![3, 0, 0] ∧ k0_off21 = ![256 * 3, 0] := by decide +kernel
theorem off_start4 : k0_off22 = ![4] ∧ k0_off23 = ![4, 0, 0, 0] ∧ k0_off24 = ![0, 256 * 4, 0]
    ∧ k0_off25 = ![4] ∧ k0_off26 = ![4, 0, 0] ∧ k0_off27 = ![256 * 4, 0] := by decide +kernel

/-- A trip's fetch: block `k + 5` into slot `(k + 5) mod 6` of each ring. -/
theorem off_fetch : ∀ k : Fin k0_t1_loop.trips, k.val + 5 < 32 →
    (k0_off28 (fetched k) = ![(k.val + 5) % 6] ∧ k0_off29 (fetched k) = ![(k.val + 5) % 6, 0, 0, 0]
      ∧ k0_off30 (coord k) = ![0, 256 * (k.val + 5), 0])
    ∧ k0_off31 (fetched k) = ![(k.val + 5) % 6] ∧ k0_off32 (fetched k) = ![(k.val + 5) % 6, 0, 0]
      ∧ k0_off33 (coord k) = ![256 * (k.val + 5), 0] := by decide +kernel
/-- A trip's awaited blocks and its loads: block `k`, in slot `k mod 6`. -/
theorem off_await : ∀ k : Fin k0_t1_loop.trips,
    (k0_off34 (w k) = ![k.val % 6] ∧ k0_off35 (w k) = ![k.val % 6, 0, 0, 0])
    ∧ k0_off37 (w k) = ![k.val % 6] ∧ k0_off38 (w k) = ![k.val % 6, 0, 0]
    ∧ k0_off40 (w k) = ![k.val % 6, 0, 0, 0] ∧ k0_off41 (w k) = ![k.val % 6, 0, 0] := by decide +kernel
/-- A trip's result: block `k`, from slot `k mod 2` of the output ring. -/
theorem off_send : ∀ k : Fin k0_t1_loop.trips,
    k0_off42 (w k) = ![k.val % 2, 0, 0, 0] ∧ k0_off43 (w k) = ![k.val % 2]
    ∧ k0_off44 (coord k) = ![0, 256 * k.val, 0] ∧ k0_off45 (w k) = ![k.val % 2, 0, 0, 0] := by decide +kernel
/-- The semaphore on which a trip awaits the previous result. -/
theorem off_sent : ∀ k : Fin k0_t1_loop.trips, k0_off46 (w (k - 1)) = ![(k.val - 1) % 2] := by decide +kernel
/-- The place of the previous result in the output, in every trip but the first. -/
theorem off_sent_to : ∀ k : Fin k0_t1_loop.trips, 0 < k.val → k0_off47 (coord k) = ![0, 256 * (k.val - 1), 0] := by decide +kernel
/-- The semaphore on which the last result is awaited, after the loop, and its place in the output. -/
theorem off_end : k0_off49 (w 31) = ![31 % 2] ∧ k0_off50 (coord 32) = ![0, 256 * 31, 0] := by decide +kernel

end Cert.KernelIdeal.Hand

end
-- ==== Proof.Ring.lean ====
/-
  Hand-written. The places the kernel's copies go between, and one copy's rules: what a started copy
  holds until it is awaited, and what is held again afterwards.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.Value
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
local notation "𝕄" => MT nD τ sig Unit (Elt F) ℕ (Pipeline.UD sig nD τ) ℕ

/-! ## One copy, between any two memrefs -/

section Copy

variable (c : Dev nD) {sp sp' : Space} {s : Shape} {e : EltTy}

/-- A memref's elements, held at whatever they are. -/
def room (dst : Memref sig .tc sp s e) : sProp 𝕄 :=
  iprop(∃ f, dst.view.loc (c : Thread nD τ) ↦[dst.view.set]{fullShare} f)

/-- A copy under way on semaphore `sm` that will leave the values `v` in `dst` and give back what was lent, `R`. -/
def underway (dst : Memref sig .tc sp s e) (sm : DmaSem sig) (v : s.Idx → Elt F e) (R : sProp 𝕄) : sProp 𝕄 :=
  Transfers.Flight (countersEmb (U := Pipeline.UD sig nD τ)) (c : Thread nD τ) (.dma sm) () dst.view.dmaCredit
    iprop(owns (c : Thread nD τ) dst fullShare v ∗ R)

/-- A core's record of its waits, whatever they were. -/
def waits : sProp 𝕄 := iprop(∃ W : Waits sig Unit, owes (c : Thread nD τ) 0 W)

theorem room_of_owns (dst : Memref sig .tc sp s e) (v : s.Idx → Elt F e) :
    (owns (c : Thread nD τ) dst fullShare v : sProp 𝕄) ⊢ room c dst := by
  unfold owns room
  iintro ⟨%f, -, H⟩
  iexists f; iexact H

/-- Starting a copy: from the source's elements, room at the destination and the semaphore at zero. -/
theorem start {src : Memref sig .tc sp s e} {dst : Memref sig .tc sp' s e} {sm : DmaSem sig}
    (hpos : 0 < s.numel) {hsrc : src.view.WordExact} {hdst : dst.view.WordExact}
    {hsem : DmaTarget.Typed (nD := nD) (τ := τ) (p := .tc) sp (.dma sm) (.here dst)} {Q : PUnit → sProp 𝕄}
    (v : s.Idx → Elt F e) :
    iprop(owns (c : Thread nD τ) src fullShare v ∗ room c dst ∗ semVal ((c : Thread nD τ), SemLoc.dma sm) 0)
      ⊢ iprop((underway c dst sm v (owns (c : Thread nD τ) src fullShare v) -∗ Q ⟨⟩)
        -∗ wp frame (wpE (defs₀ (F := F)) Variants.none (c : Thread nD τ) none) Set.univ
            (Prog.lift (.enqueueDma src (.here dst) (.dma sm) hsrc hdst hsem)) Q) := by
  unfold room underway
  iintro ⟨Hs, ⟨%fd, Hd⟩, Hv⟩ Hk
  unfold owns
  icases Hs with ⟨%fs, %hfs, Hs⟩
  iapply (Transfers.wp_dmaLocal (countersEmb (U := Pipeline.UD sig nD τ)) Variants.none (c : Thread nD τ) none () dst.view.dmaCredit
    rfl (dst.view.dmaCredit_pos hpos) (Finset.Subset.refl _)) $$ [Hs Hd Hv]
  · isplitl [Hs]; · iexact Hs
    isplitl [Hd]; · iexact Hd
    iexact Hv
  iintro HF
  rw [wp_ret]; imodintro
  iapply Hk
  iapply (Transfers.Flight_mono _ _ _) $$ HF
  iintro ⟨Hd, Hs⟩
  isplitl [Hd]
  · iexists _; isplitr
    swap; · iexact Hd
    ipureintro
    rw [View.read_write_univ, ← hfs]
  · iexists fs; isplitr
    · ipureintro; exact hfs
    · iexact Hs

/-- Awaiting a copy: the destination holds the copied values, the semaphore is at zero, and what was lent is back. -/
theorem await {sp₁ sp₂ : Space} {s₁ s₂ : Shape} {e₁ e₂ : EltTy} {srcw : Memref sig .tc sp₁ s₁ e₁} {dstw : Memref sig .tc sp₂ s₂ e₂}
    {dst : Memref sig .tc sp s e} {sm : DmaSem sig} {hsrc : srcw.view.WordExact} {hdst : dstw.view.WordExact}
    (hN : dstw.view.dmaCredit = dst.view.dmaCredit) {Q : PUnit → sProp 𝕄} (v : s.Idx → Elt F e) (R : sProp 𝕄) :
    iprop(underway c dst sm v R ∗ waits c)
      ⊢ iprop((iprop(owns (c : Thread nD τ) dst fullShare v ∗ R ∗ semVal ((c : Thread nD τ), SemLoc.dma sm) 0 ∗ waits c) -∗ Q ⟨⟩)
        -∗ wp frame (wpE (defs₀ (F := F)) Variants.none (c : Thread nD τ) none) Set.univ
            (Prog.lift (.waitDma2 sm srcw dstw hsrc hdst)) Q) := by
  unfold underway waits
  iintro ⟨HF, ⟨%W, HW⟩⟩ Hk
  iapply (Transfers.wp_waitLocal (countersEmb (U := Pipeline.UD sig nD τ)) Variants.none (c : Thread nD τ) none () hN) $$ [HF HW]
  · isplitl [HF]; · iexact HF
    iexact HW
  iintro ⟨⟨Hd, HR⟩, Hv, HW⟩
  rw [wp_ret]; imodintro
  iapply Hk
  isplitl [Hd]; · iexact Hd
  isplitl [HR]; · iexact HR
  isplitl [Hv]; · iexact Hv
  iexists _; iexact HW

end Copy

end Cert.KernelIdeal.Hand

end
-- ==== Proof.Lanes.lean ====
/-
  Hand-written. A ring of six slots that runs five blocks ahead, and a ring of two slots that sends
  results out, each stated once for any slots, blocks and semaphores: what is held before trip `k`,
  and how starting and awaiting one copy takes it to trip `k + 1`.
-/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
local notation "𝕄" => MT nD τ sig Unit (Elt F) ℕ (Pipeline.UD sig nD τ) ℕ

/-- Slots in VMEM with their semaphores, and the 32 blocks of an array in HBM. -/
structure Lane (s : Shape) where
  slot : ℕ → Memref sig .tc .vmem s .f32
  sem : ℕ → DmaSem sig
  blk : Fin 32 → Memref sig .tc .hbm s .f32

section Fetching

variable {s : Shape} (L : Lane s) (c : Dev nD) (val : Fin 32 → s.Idx → Elt F .f32)

/-- A slot ready to be filled: its room, its semaphore at zero. -/
def ready (p : ℕ) : sProp 𝕄 := iprop(room c (L.slot p) ∗ semVal ((c : Thread nD τ), SemLoc.dma (L.sem p)) 0)

/-- Block `b`, held at its values. -/
def block (b : Fin 32) : sProp 𝕄 := owns (c : Thread nD τ) (L.blk b) fullShare (val b)

/-- Block `b` on its way into slot `p`. -/
def coming (p : ℕ) (b : Fin 32) : sProp 𝕄 := underway c (L.slot p) (L.sem p) (val b) (block L c val b)

/-- The slot of the `p`-th block: the block on its way, or ready when there is no such block. -/
def place (p : ℕ) : sProp 𝕄 := if h : p < 32 then coming L c val p ⟨p, h⟩ else ready L c p

/-- The blocks not on their way before trip `k`, once `a` blocks ahead have been started. -/
def others (k a : ℕ) : sProp 𝕄 := bigSep (Finset.univ.filter fun b : Fin 32 => b.val < k ∨ k + a ≤ b.val) (block L c val)

/-- What a trip finds: five blocks on their way, the sixth slot ready. -/
def ring (k : ℕ) : sProp 𝕄 :=
  iprop(place L c val k ∗ place L c val (k + 1) ∗ place L c val (k + 2) ∗ place L c val (k + 3) ∗ place L c val (k + 4)
    ∗ ready L c (k + 5) ∗ others L c val k 5)

/-- What a trip holds once it has started its fetch. -/
def ringFull (k : ℕ) : sProp 𝕄 :=
  iprop(place L c val k ∗ place L c val (k + 1) ∗ place L c val (k + 2) ∗ place L c val (k + 3) ∗ place L c val (k + 4)
    ∗ place L c val (k + 5) ∗ others L c val k 6)

/-- What a trip holds beside its own slot while it computes. -/
def ringRest (k : ℕ) : sProp 𝕄 :=
  iprop(place L c val (k + 1) ∗ place L c val (k + 2) ∗ place L c val (k + 3) ∗ place L c val (k + 4)
    ∗ place L c val (k + 5) ∗ others L c val (k + 1) 5)

theorem others_take (k a : ℕ) (h : k + a < 32) :
    (others L c val k a : sProp 𝕄) = iprop(block L c val ⟨k + a, h⟩ ∗ others L c val k (a + 1)) := by
  unfold others
  refine (congrArg (fun S => bigSep S (block L c val)) ?_).trans (bigSep_insert (i := (⟨k + a, h⟩ : Fin 32)) (by simp))
  ext b
  simp only [Finset.mem_filter, Finset.mem_univ, true_and, Finset.mem_insert, Fin.ext_iff]
  omega

theorem others_skip (k a : ℕ) (h : ¬ k + a < 32) : (others L c val k a : sProp 𝕄) = others L c val k (a + 1) := by
  unfold others
  congr 1
  ext b
  simp only [Finset.mem_filter, Finset.mem_univ, true_and]
  have := b.isLt
  omega

theorem others_put (k a : ℕ) (h : k < 32) :
    iprop(block L c val ⟨k, h⟩ ∗ others L c val k (a + 1)) = (others L c val (k + 1) a : sProp 𝕄) := by
  unfold others
  refine ((congrArg (fun S => bigSep S (block L c val)) ?_).trans (bigSep_insert (i := (⟨k, h⟩ : Fin 32)) (by simp))).symm
  ext b
  simp only [Finset.mem_filter, Finset.mem_univ, true_and, Finset.mem_insert, Fin.ext_iff]
  omega

theorem others_all : (others L c val 0 0 : sProp 𝕄) = bigSep Finset.univ (block L c val) := by
  unfold others
  congr 1

theorem others_end : (others L c val 32 5 : sProp 𝕄) = bigSep Finset.univ (block L c val) := by
  unfold others
  congr 1

theorem place_lt {p : ℕ} (h : p < 32) : (place L c val p : sProp 𝕄) = coming L c val p ⟨p, h⟩ := by
  unfold place; rw [dif_pos h]

theorem place_ge {p : ℕ} (h : ¬ p < 32) : (place L c val p : sProp 𝕄) = ready L c p := by
  unfold place; rw [dif_neg h]

/-- Starting the fetch of block `p` into a ready slot. -/
theorem fetch (p : ℕ) (b : Fin 32) (hpos : 0 < s.numel) {hsrc : (L.blk b).view.WordExact} {hdst : (L.slot p).view.WordExact}
    {hsem : DmaTarget.Typed (nD := nD) (τ := τ) (p := .tc) .hbm (.dma (L.sem p)) (.here (L.slot p))} {Q : PUnit → sProp 𝕄} :
    iprop(block L c val b ∗ ready L c p)
      ⊢ iprop((coming L c val p b -∗ Q ⟨⟩)
        -∗ wp frame (wpE (defs₀ (F := F)) Variants.none (c : Thread nD τ) none) Set.univ
            (Prog.lift (.enqueueDma (L.blk b) (.here (L.slot p)) (.dma (L.sem p)) hsrc hdst hsem)) Q) := by
  unfold block ready coming block
  iintro ⟨Hb, Hr, Hv⟩ Hk
  iapply (start c hpos (val b)) $$ [Hb Hr Hv]
  · isplitl [Hb]; · iexact Hb
    isplitl [Hr]; · iexact Hr
    iexact Hv
  iexact Hk

/-- A trip that fetches. -/
theorem ring_take (k : ℕ) (h : k + 5 < 32) :
    (ring L c val k : sProp 𝕄) ⊢ iprop((block L c val ⟨k + 5, h⟩ ∗ ready L c (k + 5)) ∗ (coming L c val (k + 5) ⟨k + 5, h⟩ -∗ ringFull L c val k)) := by
  unfold ring ringFull
  rw [others_take L c val k 5 h, place_lt L c val h]
  iintro ⟨H0, H1, H2, H3, H4, Hr, Hb, Ho⟩
  isplitl [Hb Hr]
  · isplitl [Hb]; · iexact Hb
    iexact Hr
  iintro H5
  isplitl [H0]; · iexact H0
  isplitl [H1]; · iexact H1
  isplitl [H2]; · iexact H2
  isplitl [H3]; · iexact H3
  isplitl [H4]; · iexact H4
  isplitl [H5]; · iexact H5
  iexact Ho

/-- A trip with nothing left to fetch. -/
theorem ring_skip (k : ℕ) (h : ¬ k + 5 < 32) : (ring L c val k : sProp 𝕄) ⊢ ringFull L c val k := by
  unfold ring ringFull
  rw [others_skip L c val k 5 h, place_ge L c val h]

/-- A trip's own block is on its way; once it is here the block is put back among the others. -/
theorem ring_own (k : ℕ) (h : k < 32) :
    (ringFull L c val k : sProp 𝕄) ⊢ iprop(coming L c val k ⟨k, h⟩ ∗ (block L c val ⟨k, h⟩ -∗ ringRest L c val k)) := by
  unfold ringFull ringRest
  rw [← others_put L c val k 5 h, place_lt L c val h]
  iintro ⟨H0, H1, H2, H3, H4, H5, Ho⟩
  isplitl [H0]; · iexact H0
  iintro Hb
  isplitl [H1]; · iexact H1
  isplitl [H2]; · iexact H2
  isplitl [H3]; · iexact H3
  isplitl [H4]; · iexact H4
  isplitl [H5]; · iexact H5
  isplitl [Hb]; · iexact Hb
  iexact Ho

/-- When a trip is done with its slot, the slot is the sixth of the next trip's six. -/
theorem ring_next (hslot : ∀ p, L.slot (p + 6) = L.slot p) (hsem : ∀ p, L.sem (p + 6) = L.sem p) (k : ℕ) :
    iprop(ringRest L c val k ∗ ready L c k) ⊢ (ring L c val (k + 1) : sProp 𝕄) := by
  have hr : (ready L c (k + 1 + 5) : sProp 𝕄) = ready L c k := by
    unfold ready; rw [show k + 1 + 5 = k + 6 from rfl, hslot, hsem]
  unfold ringRest ring
  rw [hr]
  iintro ⟨⟨H1, H2, H3, H4, H5, Ho⟩, Hr⟩
  isplitl [H1]; · iexact H1
  isplitl [H2]; · iexact H2
  isplitl [H3]; · iexact H3
  isplitl [H4]; · iexact H4
  isplitl [H5]; · iexact H5
  isplitl [Hr]; · iexact Hr
  iexact Ho

/-- Before anything is started: every block held, every slot ready. -/
def idle : sProp 𝕄 :=
  iprop((ready L c 0 ∗ ready L c 1 ∗ ready L c 2 ∗ ready L c 3 ∗ ready L c 4 ∗ ready L c 5) ∗ bigSep Finset.univ (block L c val))

/-- The six slots and the blocks before the loop: five fetches to be started. -/
theorem idle_start :
    (idle L c val : sProp 𝕄) ⊢ iprop((block L c val 0 ∗ ready L c 0) ∗ (block L c val 1 ∗ ready L c 1) ∗ (block L c val 2 ∗ ready L c 2)
      ∗ (block L c val 3 ∗ ready L c 3) ∗ (block L c val 4 ∗ ready L c 4)
      ∗ (coming L c val 0 0 ∗ coming L c val 1 1 ∗ coming L c val 2 2 ∗ coming L c val 3 3 ∗ coming L c val 4 4 -∗ ring L c val 0)) := by
  unfold idle ring
  rw [← others_all, others_take L c val 0 0 (by omega), others_take L c val 0 1 (by omega), others_take L c val 0 2 (by omega),
    others_take L c val 0 3 (by omega), others_take L c val 0 4 (by omega),
    place_lt L c val (p := 0) (by omega), place_lt L c val (p := 0 + 1) (by omega), place_lt L c val (p := 0 + 2) (by omega),
    place_lt L c val (p := 0 + 3) (by omega), place_lt L c val (p := 0 + 4) (by omega)]
  iintro ⟨⟨H0, H1, H2, H3, H4, H5⟩, B0, B1, B2, B3, B4, Ho⟩
  isplitl [B0 H0]; · isplitl [B0]; · iexact B0
                     iexact H0
  isplitl [B1 H1]; · isplitl [B1]; · iexact B1
                     iexact H1
  isplitl [B2 H2]; · isplitl [B2]; · iexact B2
                     iexact H2
  isplitl [B3 H3]; · isplitl [B3]; · iexact B3
                     iexact H3
  isplitl [B4 H4]; · isplitl [B4]; · iexact B4
                     iexact H4
  iintro ⟨C0, C1, C2, C3, C4⟩
  isplitl [C0]; · iexact C0
  isplitl [C1]; · iexact C1
  isplitl [C2]; · iexact C2
  isplitl [C3]; · iexact C3
  isplitl [C4]; · iexact C4
  isplitl [H5]; · iexact H5
  iexact Ho

/-- After the last trip every slot is ready and every block held again. -/
theorem ring_end (hslot : ∀ p, L.slot (p + 6) = L.slot p) (hsem : ∀ p, L.sem (p + 6) = L.sem p) :
    (ring L c val 32 : sProp 𝕄) ⊢ idle L c val := by
  have hr : ∀ p, (ready L c (p + 6) : sProp 𝕄) = ready L c p := fun p => by
    unfold ready; rw [hslot, hsem]
  have hr' : ∀ p, (ready L c (p + 30) : sProp 𝕄) = ready L c p := fun p => by
    rw [show p + 30 = p + 6 + 6 + 6 + 6 + 6 from rfl, hr, hr, hr, hr, hr]
  unfold ring idle
  rw [others_end, place_ge L c val (p := 32) (by omega), place_ge L c val (p := 32 + 1) (by omega), place_ge L c val (p := 32 + 2) (by omega),
    place_ge L c val (p := 32 + 3) (by omega), place_ge L c val (p := 32 + 4) (by omega),
    show ready L c 32 = (ready L c 2 : sProp 𝕄) from hr' 2, show ready L c (32 + 1) = (ready L c 3 : sProp 𝕄) from hr' 3,
    show ready L c (32 + 2) = (ready L c 4 : sProp 𝕄) from hr' 4, show ready L c (32 + 3) = (ready L c 5 : sProp 𝕄) from hr' 5,
    show ready L c (32 + 4) = (ready L c 0 : sProp 𝕄) from (hr' 6).trans (hr 0),
    show ready L c (32 + 5) = (ready L c 1 : sProp 𝕄) from (hr' 7).trans (hr 1)]
  iintro ⟨H2, H3, H4, H5, H0, H1, Ho⟩
  isplitr [Ho]
  · isplitl [H0]; · iexact H0
    isplitl [H1]; · iexact H1
    isplitl [H2]; · iexact H2
    isplitl [H3]; · iexact H3
    isplitl [H4]; · iexact H4
    iexact H5
  iexact Ho

end Fetching

section Sending

variable {s : Shape} (L : Lane s) (c : Dev nD) (val : Fin 32 → s.Idx → Elt F .f32)

/-- Block `b`'s values on their way out of slot `p`. -/
def going (p : ℕ) (b : Fin 32) : sProp 𝕄 := underway c (L.blk b) (L.sem p) (val b) (owns (c : Thread nD τ) (L.slot p) fullShare (val b))

/-- What trip `k` finds of the trip before: its result on its way, or, before the first trip, the other slot ready. -/
def before : ℕ → sProp 𝕄
  | 0 => ready L c 1
  | k + 1 => if h : k < 32 then going L c val k ⟨k, h⟩ else iprop(emp)

/-- The results that have arrived before trip `k`. -/
def arrived (k : ℕ) : sProp 𝕄 := bigSep (Finset.univ.filter fun b : Fin 32 => b.val + 1 < k) (block L c val)

/-- The blocks no result has been sent to before trip `k`. -/
def unsent (k : ℕ) : sProp 𝕄 := bigSep (Finset.univ.filter fun b : Fin 32 => k ≤ b.val) (fun b => room c (L.blk b))

/-- What a trip finds of the output: a slot ready, the previous result on its way. -/
def outRing (k : ℕ) : sProp 𝕄 := iprop(ready L c k ∗ before L c val k ∗ arrived L c val k ∗ unsent L c k)

/-- What a trip holds of the output beside its slot while it stores its result. -/
def outRest (k : ℕ) : sProp 𝕄 := iprop(before L c val k ∗ arrived L c val k ∗ unsent L c k)

/-- What a trip holds of the output once its result is on its way. -/
def outSent (k : ℕ) : sProp 𝕄 :=
  iprop(before L c val (k + 1) ∗ before L c val k ∗ arrived L c val k ∗ unsent L c (k + 1))

theorem before_succ (k : ℕ) (h : k < 32) : (before L c val (k + 1) : sProp 𝕄) = going L c val k ⟨k, h⟩ := dif_pos h

theorem unsent_take (k : ℕ) (h : k < 32) :
    (unsent L c k : sProp 𝕄) = iprop(room c (L.blk ⟨k, h⟩) ∗ unsent L c (k + 1)) := by
  unfold unsent
  refine (congrArg (fun S => bigSep S (fun b => room c (L.blk b))) ?_).trans (bigSep_insert (i := (⟨k, h⟩ : Fin 32)) (by simp))
  ext b
  simp only [Finset.mem_filter, Finset.mem_univ, true_and, Finset.mem_insert, Fin.ext_iff]
  omega

theorem arrived_put (k : ℕ) (h : k < 32) :
    iprop(block L c val ⟨k, h⟩ ∗ arrived L c val (k + 1)) = (arrived L c val (k + 1 + 1) : sProp 𝕄) := by
  unfold arrived
  refine ((congrArg (fun S => bigSep S (block L c val)) ?_).trans (bigSep_insert (i := (⟨k, h⟩ : Fin 32)) (by simp))).symm
  ext b
  simp only [Finset.mem_filter, Finset.mem_univ, true_and, Finset.mem_insert, Fin.ext_iff]
  omega

/-- Sending block `b`'s values from a slot that holds them. -/
theorem send (p : ℕ) (b : Fin 32) (hpos : 0 < s.numel) {hsrc : (L.slot p).view.WordExact} {hdst : (L.blk b).view.WordExact}
    {hsem : DmaTarget.Typed (nD := nD) (τ := τ) (p := .tc) .vmem (.dma (L.sem p)) (.here (L.blk b))} {Q : PUnit → sProp 𝕄} :
    iprop(owns (c : Thread nD τ) (L.slot p) fullShare (val b) ∗ semVal ((c : Thread nD τ), SemLoc.dma (L.sem p)) 0 ∗ room c (L.blk b))
      ⊢ iprop((going L c val p b -∗ Q ⟨⟩)
        -∗ wp frame (wpE (defs₀ (F := F)) Variants.none (c : Thread nD τ) none) Set.univ
            (Prog.lift (.enqueueDma (L.slot p) (.here (L.blk b)) (.dma (L.sem p)) hsrc hdst hsem)) Q) := by
  unfold going
  iintro ⟨Hs, Hv, Hr⟩ Hk
  iapply (start c hpos (val b)) $$ [Hs Hr Hv]
  · isplitl [Hs]; · iexact Hs
    isplitl [Hr]; · iexact Hr
    iexact Hv
  iexact Hk

/-- The slot, and where its result goes. -/
theorem out_take (k : ℕ) (h : k < 32) :
    (outRest L c val k : sProp 𝕄) ⊢ iprop(room c (L.blk ⟨k, h⟩) ∗ (going L c val k ⟨k, h⟩ -∗ outSent L c val k)) := by
  unfold outRest outSent
  rw [unsent_take L c k h, show before L c val (k + 1) = (going L c val k ⟨k, h⟩ : sProp 𝕄) from dif_pos h]
  iintro ⟨Hb, Ha, Hr, Hu⟩
  isplitl [Hr]; · iexact Hr
  iintro Hg
  isplitl [Hg]; · iexact Hg
  isplitl [Hb]; · iexact Hb
  isplitl [Ha]; · iexact Ha
  iexact Hu

/-- After the first trip's send there is nothing to await. -/
theorem out_first : (outSent L c val 0 : sProp 𝕄) ⊢ outRing L c val (0 + 1) := by
  unfold outSent outRing
  rw [show before L c val 0 = (ready L c (0 + 1) : sProp 𝕄) from rfl,
    show arrived L c val (0 + 1) = (arrived L c val 0 : sProp 𝕄) from by unfold arrived; congr 1]
  iintro ⟨Hg, Hb, Ha, Hu⟩
  isplitl [Hb]; · iexact Hb
  isplitl [Hg]; · iexact Hg
  isplitl [Ha]; · iexact Ha
  iexact Hu

/-- A later trip awaits the result before its own, whose slot is the next trip's. -/
theorem out_later (hslot : ∀ p, L.slot (p + 2) = L.slot p) (hsem : ∀ p, L.sem (p + 2) = L.sem p) (k : ℕ) (h : k < 32) :
    (outSent L c val (k + 1) : sProp 𝕄) ⊢ iprop(going L c val k ⟨k, h⟩
      ∗ (owns (c : Thread nD τ) (L.blk ⟨k, h⟩) fullShare (val ⟨k, h⟩) ∗ owns (c : Thread nD τ) (L.slot k) fullShare (val ⟨k, h⟩)
          ∗ semVal ((c : Thread nD τ), SemLoc.dma (L.sem k)) 0 -∗ outRing L c val (k + 1 + 1))) := by
  unfold outSent outRing
  rw [show before L c val (k + 1) = (going L c val k ⟨k, h⟩ : sProp 𝕄) from dif_pos h, ← arrived_put L c val k h]
  iintro ⟨Hg, Hb, Ha, Hu⟩
  isplitl [Hb]; · iexact Hb
  iintro ⟨Hd, Hs, Hv⟩
  isplitl [Hs Hv]
  · unfold ready
    rw [show k + 1 + 1 = k + 2 from rfl, hslot, hsem]
    isplitl [Hs]
    · iapply (room_of_owns c (L.slot k) (val ⟨k, h⟩)); iexact Hs
    iexact Hv
  isplitl [Hg]; · iexact Hg
  isplitl [Hd Ha]
  · isplitl [Hd]; · unfold block; iexact Hd
    iexact Ha
  iexact Hu

/-- Before anything is sent. -/
theorem out_start : iprop(ready L c 0 ∗ ready L c 1 ∗ bigSep Finset.univ (fun b => room c (L.blk b))) ⊢ (outRing L c val 0 : sProp 𝕄) := by
  unfold outRing
  rw [show before L c val 0 = (ready L c 1 : sProp 𝕄) from rfl,
    show arrived L c val 0 = (iprop(emp) : sProp 𝕄) from by unfold arrived; simp; rfl,
    show unsent L c 0 = (bigSep Finset.univ (fun b => room c (L.blk b)) : sProp 𝕄) from by unfold unsent; congr 1]
  iintro ⟨H0, H1, Hu⟩
  isplitl [H0]; · iexact H0
  isplitl [H1]; · iexact H1
  isplitr; · iempintro
  iexact Hu

/-- After the last trip one result is on its way; once it is here every block has its result and both slots are ready. -/
theorem out_end (hslot : ∀ p, L.slot (p + 2) = L.slot p) (hsem : ∀ p, L.sem (p + 2) = L.sem p) :
    (outRing L c val 32 : sProp 𝕄) ⊢ iprop(going L c val 31 31
      ∗ (owns (c : Thread nD τ) (L.blk 31) fullShare (val 31) ∗ owns (c : Thread nD τ) (L.slot 31) fullShare (val 31)
          ∗ semVal ((c : Thread nD τ), SemLoc.dma (L.sem 31)) 0
          -∗ ready L c 0 ∗ ready L c 1 ∗ bigSep Finset.univ (block L c val))) := by
  have hr : ∀ p, (ready L c (p + 2) : sProp 𝕄) = ready L c p := fun p => by
    unfold ready; rw [hslot, hsem]
  have hr' : ∀ n p, (ready L c (p + 2 * n) : sProp 𝕄) = ready L c p := fun n => by
    induction n with
    | zero => intro p; rfl
    | succ n ih => intro p; rw [show p + 2 * (n + 1) = p + 2 * n + 2 from by omega, hr, ih]
  have ha : (bigSep Finset.univ (block L c val) : sProp 𝕄) = iprop(block L c val 31 ∗ arrived L c val 32) := by
    refine Eq.trans ?_ (arrived_put L c val 31 (by omega)).symm
    unfold arrived
    congr 1
  have hb : (before L c val 32 : sProp 𝕄) = going L c val 31 31 := by
    exact before_succ L c val 31 (by omega)
  unfold outRing
  rw [hb, ha,
    show ready L c 32 = (ready L c 0 : sProp 𝕄) from hr' 16 0, ← show ready L c 31 = (ready L c 1 : sProp 𝕄) from hr' 15 1]
  iintro ⟨H0, Hg, Ha, -⟩
  isplitl [Hg]; · iexact Hg
  iintro ⟨Hd, Hs, Hv⟩
  isplitl [H0]; · iexact H0
  isplitl [Hs Hv]
  · unfold ready
    isplitl [Hs]
    · iapply (room_of_owns c (L.slot 31) (val 31)); iexact Hs
    iexact Hv
  isplitl [Hd]; · unfold block; iexact Hd
  iexact Ha

end Sending

end Cert.KernelIdeal.Hand

end
-- ==== Proof.Places.lean ====
/-
  Hand-written. The kernel's own slots, blocks and semaphores: the ring of `x` tiles, the ring of
  position tiles, the ring of results; and the printed copies restated over them.
-/
module

public import proofs.«01_k».proof.Proof.Lanes

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
local notation "𝕄" => MT nD τ sig Unit (Elt F) ℕ (Pipeline.UD sig nD τ) ℕ

theorem inb_xslot (p : ℕ) : ∀ a, (![p % 6, 0, 0, 0] : Fin 4 → ℕ) a + S1x4x256x768.size a ≤ S6x4x256x768.size a := by
  have := Nat.mod_lt p (show 0 < 6 by omega)
  intro a; fin_cases a <;> simp [S1x4x256x768, S6x4x256x768] <;> omega
theorem inb_pslot (p : ℕ) : ∀ a, (![p % 6, 0, 0] : Fin 3 → ℕ) a + S1x256x768.size a ≤ S6x256x768.size a := by
  have := Nat.mod_lt p (show 0 < 6 by omega)
  intro a; fin_cases a <;> simp [S1x256x768, S6x256x768] <;> omega
theorem inb_oslot (p : ℕ) : ∀ a, (![p % 2, 0, 0, 0] : Fin 4 → ℕ) a + S1x4x256x768.size a ≤ S2x4x256x768.size a := by
  have := Nat.mod_lt p (show 0 < 2 by omega)
  intro a; fin_cases a <;> simp [S1x4x256x768, S2x4x256x768] <;> omega
theorem inb_sem6 (p : ℕ) : ∀ a, (![p % 6] : Fin 1 → ℕ) a + S1.size a ≤ S6.size a := by
  have := Nat.mod_lt p (show 0 < 6 by omega)
  intro a; fin_cases a; simp [S1, S6]; omega
theorem inb_sem2 (p : ℕ) : ∀ a, (![p % 2] : Fin 1 → ℕ) a + S1.size a ≤ S2.size a := by
  have := Nat.mod_lt p (show 0 < 2 by omega)
  intro a; fin_cases a; simp [S1, S2]; omega
theorem inb_xblk (b : Fin 32) : ∀ a, (![0, 256 * b.val, 0] : Fin 3 → ℕ) a + S4x256x768.size a ≤ S4x8192x768.size a := by
  have := b.isLt
  intro a; fin_cases a <;> simp [S4x256x768, S4x8192x768] <;> omega
theorem inb_pblk (b : Fin 32) : ∀ a, (![256 * b.val, 0] : Fin 2 → ℕ) a + S256x768.size a ≤ S8192x768.size a := by
  have := b.isLt
  intro a; fin_cases a <;> simp [S256x768, S8192x768] <;> omega

/-- Rows `256 b` to `256 b + 255` of an array of four batches. -/
abbrev rows (M : Memref sig .tc .hbm S4x8192x768 .f32) (b : Fin 32) : Memref sig .tc .hbm S4x256x768 .f32 :=
  M.slice (Rect.unit (s := S4x8192x768) ![0, 256 * b.val, 0] S4x256x768.size (inb_xblk b)) (fun _ => rfl)

/-- The ring of `x` tiles. -/
abbrev LX : Lane S4x256x768 where
  slot p := ((Memref.whole cc0_scoped0 : Memref sig .tc .vmem S6x4x256x768 .f32).slice (Rect.unit (s := S6x4x256x768) ![p % 6, 0, 0, 0] S1x4x256x768.size (inb_xslot p)) (fun _ => rfl)).squeeze S4x256x768 squeezes_S1x4x256x768_S4x256x768
  sem p := ((cc0_scoped1.slice (Rect.unit (s := S6) ![p % 6] S1.size (inb_sem6 p))).squeeze S_ squeezes_S1_S_).sem
  blk b := rows (Memref.whole main_arg0) b

/-- The ring of position tiles. -/
abbrev LP : Lane S256x768 where
  slot p := ((Memref.whole cc0_scoped2 : Memref sig .tc .vmem S6x256x768 .f32).slice (Rect.unit (s := S6x256x768) ![p % 6, 0, 0] S1x256x768.size (inb_pslot p)) (fun _ => rfl)).squeeze S256x768 squeezes_S1x256x768_S256x768
  sem p := ((cc0_scoped3.slice (Rect.unit (s := S6) ![p % 6] S1.size (inb_sem6 p))).squeeze S_ squeezes_S1_S_).sem
  blk b := (Memref.whole main_arg2 : Memref sig .tc .hbm S8192x768 .f32).slice (Rect.unit (s := S8192x768) ![256 * b.val, 0] S256x768.size (inb_pblk b)) (fun _ => rfl)

/-- The ring of results. -/
abbrev LO : Lane S4x256x768 where
  slot p := ((Memref.whole cc0_scoped4 : Memref sig .tc .vmem S2x4x256x768 .f32).slice (Rect.unit (s := S2x4x256x768) ![p % 2, 0, 0, 0] S1x4x256x768.size (inb_oslot p)) (fun _ => rfl)).squeeze S4x256x768 squeezes_S1x4x256x768_S4x256x768
  sem p := ((cc0_scoped5.slice (Rect.unit (s := S2) ![p % 2] S1.size (inb_sem2 p))).squeeze S_ squeezes_S1_S_).sem
  blk b := rows (Memref.whole main_v0) b

/-- Slots at equal offsets are the same slot. -/
theorem slot_congr {s s' : Shape} (M : Memref sig .tc .vmem s .f32) (size : Fin s.rank → ℕ) {o o' : Fin s.rank → ℕ} (h : o = o')
    (i : ∀ a, o a + size a ≤ s.size a) (i' : ∀ a, o' a + size a ≤ s.size a) (hq : (⟨s.rank, size⟩ : Shape).Squeezes s') :
    (M.slice (Rect.unit o size i) (fun _ => rfl)).squeeze s' hq = (M.slice (Rect.unit o' size i') (fun _ => rfl)).squeeze s' hq := by
  subst h; rfl

/-- Semaphores at equal offsets are the same semaphore. -/
theorem sem_congr {s : Shape} (A : DmaSems sig s) (size : Fin s.rank → ℕ) {o o' : Fin s.rank → ℕ} (h : o = o')
    (i : ∀ a, o a + size a ≤ s.size a) (i' : ∀ a, o' a + size a ≤ s.size a) (hq : (⟨s.rank, size⟩ : Shape).Squeezes S_) :
    ((A.slice (Rect.unit o size i)).squeeze S_ hq).sem = ((A.slice (Rect.unit o' size i')).squeeze S_ hq).sem := by
  subst h; rfl

theorem LX_slot (p : ℕ) : LX.slot (p + 6) = LX.slot p :=
  slot_congr _ _ (show ![(p + 6) % 6, 0, 0, 0] = ![p % 6, 0, 0, 0] by rw [Nat.add_mod_right]) _ _ squeezes_S1x4x256x768_S4x256x768
theorem LX_sem (p : ℕ) : LX.sem (p + 6) = LX.sem p :=
  sem_congr cc0_scoped1 S1.size (show ![(p + 6) % 6] = ![p % 6] by rw [Nat.add_mod_right]) _ _ squeezes_S1_S_
theorem LP_slot (p : ℕ) : LP.slot (p + 6) = LP.slot p :=
  slot_congr _ _ (show ![(p + 6) % 6, 0, 0] = ![p % 6, 0, 0] by rw [Nat.add_mod_right]) _ _ squeezes_S1x256x768_S256x768
theorem LP_sem (p : ℕ) : LP.sem (p + 6) = LP.sem p :=
  sem_congr cc0_scoped3 S1.size (show ![(p + 6) % 6] = ![p % 6] by rw [Nat.add_mod_right]) _ _ squeezes_S1_S_
theorem LO_slot (p : ℕ) : LO.slot (p + 2) = LO.slot p :=
  slot_congr _ _ (show ![(p + 2) % 2, 0, 0, 0] = ![p % 2, 0, 0, 0] by rw [Nat.add_mod_right]) _ _ squeezes_S1x4x256x768_S4x256x768
theorem LO_sem (p : ℕ) : LO.sem (p + 2) = LO.sem p :=
  sem_congr cc0_scoped5 S1.size (show ![(p + 2) % 2] = ![p % 2] by rw [Nat.add_mod_right]) _ _ squeezes_S1_S_

theorem pos_xtile : 0 < S4x256x768.numel := by decide +kernel
theorem pos_ptile : 0 < S256x768.numel := by decide +kernel

/-! ## The printed copies, whose offsets are words' values, are these -/

section Printed

variable (c : Dev nD)

/-- A fetch of an `x` tile. -/
theorem fetchX (val : Fin 32 → S4x256x768.Idx → Elt F .f32) (p : ℕ) (b : Fin 32) (o1 : Fin 1 → ℕ) (o2 : Fin 4 → ℕ) (o3 : Fin 3 → ℕ)
    (h1 : o1 = ![p % 6]) (h2 : o2 = ![p % 6, 0, 0, 0]) (h3 : o3 = ![0, 256 * b.val, 0])
    (i1 : ∀ a, o1 a + S1.size a ≤ S6.size a) (i2 : ∀ a, o2 a + S1x4x256x768.size a ≤ S6x4x256x768.size a)
    (i3 : ∀ a, o3 a + S4x256x768.size a ≤ S4x8192x768.size a) {Q : PUnit → sProp 𝕄} :
    iprop(block LX c val b ∗ ready LX c p)
      ⊢ iprop((coming LX c val p b -∗ Q ⟨⟩)
        -∗ wp frame (wpE (defs₀ (F := F)) Variants.none (c : Thread nD τ) none) Set.univ
            (Prog.lift (.enqueueDma ((Memref.whole main_arg0 : Memref sig .tc .hbm S4x8192x768 .f32).slice (Rect.unit (s := S4x8192x768) o3 S4x256x768.size i3) (fun _ => rfl))
              (.here (((Memref.whole cc0_scoped0 : Memref sig .tc .vmem S6x4x256x768 .f32).slice (Rect.unit (s := S6x4x256x768) o2 S1x4x256x768.size i2) (fun _ => rfl)).squeeze S4x256x768 squeezes_S1x4x256x768_S4x256x768))
              (.dma ((cc0_scoped1.slice (Rect.unit (s := S6) o1 S1.size i1)).squeeze S_ squeezes_S1_S_).sem)
              (View.wordExact_bits rfl) ((View.wordExact_bits rfl).reshape _ _) ⟨Or.inl rfl, trivial⟩)) Q) := by
  subst h1 h2 h3
  exact fetch LX c val p b pos_xtile

/-- A fetch of a position tile. -/
theorem fetchP (val : Fin 32 → S256x768.Idx → Elt F .f32) (p : ℕ) (b : Fin 32) (o1 : Fin 1 → ℕ) (o2 : Fin 3 → ℕ) (o3 : Fin 2 → ℕ)
    (h1 : o1 = ![p % 6]) (h2 : o2 = ![p % 6, 0, 0]) (h3 : o3 = ![256 * b.val, 0])
    (i1 : ∀ a, o1 a + S1.size a ≤ S6.size a) (i2 : ∀ a, o2 a + S1x256x768.size a ≤ S6x256x768.size a)
    (i3 : ∀ a, o3 a + S256x768.size a ≤ S8192x768.size a) {Q : PUnit → sProp 𝕄} :
    iprop(block LP c val b ∗ ready LP c p)
      ⊢ iprop((coming LP c val p b -∗ Q ⟨⟩)
        -∗ wp frame (wpE (defs₀ (F := F)) Variants.none (c : Thread nD τ) none) Set.univ
            (Prog.lift (.enqueueDma ((Memref.whole main_arg2 : Memref sig .tc .hbm S8192x768 .f32).slice (Rect.unit (s := S8192x768) o3 S256x768.size i3) (fun _ => rfl))
              (.here (((Memref.whole cc0_scoped2 : Memref sig .tc .vmem S6x256x768 .f32).slice (Rect.unit (s := S6x256x768) o2 S1x256x768.size i2) (fun _ => rfl)).squeeze S256x768 squeezes_S1x256x768_S256x768))
              (.dma ((cc0_scoped3.slice (Rect.unit (s := S6) o1 S1.size i1)).squeeze S_ squeezes_S1_S_).sem)
              (View.wordExact_bits rfl) ((View.wordExact_bits rfl).reshape _ _) ⟨Or.inl rfl, trivial⟩)) Q) := by
  subst h1 h2 h3
  exact fetch LP c val p b pos_ptile

/-- Sending a result. -/
theorem sendO (val : Fin 32 → S4x256x768.Idx → Elt F .f32) (p : ℕ) (b : Fin 32) (o1 : Fin 1 → ℕ) (o2 : Fin 4 → ℕ) (o3 : Fin 3 → ℕ)
    (h1 : o1 = ![p % 2]) (h2 : o2 = ![p % 2, 0, 0, 0]) (h3 : o3 = ![0, 256 * b.val, 0])
    (i1 : ∀ a, o1 a + S1.size a ≤ S2.size a) (i2 : ∀ a, o2 a + S1x4x256x768.size a ≤ S2x4x256x768.size a)
    (i3 : ∀ a, o3 a + S4x256x768.size a ≤ S4x8192x768.size a) {Q : PUnit → sProp 𝕄} :
    iprop(owns (c : Thread nD τ) (LO.slot p) fullShare (val b) ∗ semVal ((c : Thread nD τ), SemLoc.dma (LO.sem p)) 0 ∗ room c (LO.blk b))
      ⊢ iprop((going LO c val p b -∗ Q ⟨⟩)
        -∗ wp frame (wpE (defs₀ (F := F)) Variants.none (c : Thread nD τ) none) Set.univ
            (Prog.lift (.enqueueDma (((Memref.whole cc0_scoped4 : Memref sig .tc .vmem S2x4x256x768 .f32).slice (Rect.unit (s := S2x4x256x768) o2 S1x4x256x768.size i2) (fun _ => rfl)).squeeze S4x256x768 squeezes_S1x4x256x768_S4x256x768)
              (.here ((Memref.whole main_v0 : Memref sig .tc .hbm S4x8192x768 .f32).slice (Rect.unit (s := S4x8192x768) o3 S4x256x768.size i3) (fun _ => rfl)))
              (.dma ((cc0_scoped5.slice (Rect.unit (s := S2) o1 S1.size i1)).squeeze S_ squeezes_S1_S_).sem)
              ((View.wordExact_bits rfl).reshape _ _) (View.wordExact_bits rfl) ⟨Or.inl rfl, trivial⟩)) Q) := by
  subst h1 h2 h3
  exact send LO c val p b pos_xtile

/-- Awaiting an `x` tile. -/
theorem awaitX (val : Fin 32 → S4x256x768.Idx → Elt F .f32) (p : ℕ) (b : Fin 32) (o1 : Fin 1 → ℕ) (o2 : Fin 4 → ℕ) (o3 : Fin 3 → ℕ)
    (h1 : o1 = ![p % 6]) (h2 : o2 = ![p % 6, 0, 0, 0])
    (i1 : ∀ a, o1 a + S1.size a ≤ S6.size a) (i2 : ∀ a, o2 a + S1x4x256x768.size a ≤ S6x4x256x768.size a)
    (i3 : ∀ a, o3 a + S4x256x768.size a ≤ S4x8192x768.size a) {Q : PUnit → sProp 𝕄} :
    iprop(coming LX c val p b ∗ waits c)
      ⊢ iprop((iprop(owns (c : Thread nD τ) (LX.slot p) fullShare (val b) ∗ block LX c val b
            ∗ semVal ((c : Thread nD τ), SemLoc.dma (LX.sem p)) 0 ∗ waits c) -∗ Q ⟨⟩)
        -∗ wp frame (wpE (defs₀ (F := F)) Variants.none (c : Thread nD τ) none) Set.univ
            (Prog.lift (.waitDma2 ((cc0_scoped1.slice (Rect.unit (s := S6) o1 S1.size i1)).squeeze S_ squeezes_S1_S_).sem
              ((Memref.whole main_arg0 : Memref sig .tc .hbm S4x8192x768 .f32).slice (Rect.unit (s := S4x8192x768) o3 S4x256x768.size i3) (fun _ => rfl))
              (((Memref.whole cc0_scoped0 : Memref sig .tc .vmem S6x4x256x768 .f32).slice (Rect.unit (s := S6x4x256x768) o2 S1x4x256x768.size i2) (fun _ => rfl)).squeeze S4x256x768 squeezes_S1x4x256x768_S4x256x768)
              (View.wordExact_bits rfl) ((View.wordExact_bits rfl).reshape _ _))) Q) := by
  subst h1 h2
  exact await c (srcw := ((Memref.whole main_arg0 : Memref sig .tc .hbm S4x8192x768 .f32).slice (Rect.unit (s := S4x8192x768) o3 S4x256x768.size i3) (fun _ => rfl)))
    (dstw := (((Memref.whole cc0_scoped0 : Memref sig .tc .vmem S6x4x256x768 .f32).slice (Rect.unit (s := S6x4x256x768) ![p % 6, 0, 0, 0] S1x4x256x768.size i2) (fun _ => rfl)).squeeze S4x256x768 squeezes_S1x4x256x768_S4x256x768))
    (hsrc := (View.wordExact_bits rfl)) (hdst := ((View.wordExact_bits rfl).reshape _ _)) rfl (val b) (block LX c val b)

/-- Awaiting a position tile. -/
theorem awaitP (val : Fin 32 → S256x768.Idx → Elt F .f32) (p : ℕ) (b : Fin 32) (o1 : Fin 1 → ℕ) (o2 : Fin 3 → ℕ) (o3 : Fin 2 → ℕ)
    (h1 : o1 = ![p % 6]) (h2 : o2 = ![p % 6, 0, 0])
    (i1 : ∀ a, o1 a + S1.size a ≤ S6.size a) (i2 : ∀ a, o2 a + S1x256x768.size a ≤ S6x256x768.size a)
    (i3 : ∀ a, o3 a + S256x768.size a ≤ S8192x768.size a) {Q : PUnit → sProp 𝕄} :
    iprop(coming LP c val p b ∗ waits c)
      ⊢ iprop((iprop(owns (c : Thread nD τ) (LP.slot p) fullShare (val b) ∗ block LP c val b
            ∗ semVal ((c : Thread nD τ), SemLoc.dma (LP.sem p)) 0 ∗ waits c) -∗ Q ⟨⟩)
        -∗ wp frame (wpE (defs₀ (F := F)) Variants.none (c : Thread nD τ) none) Set.univ
            (Prog.lift (.waitDma2 ((cc0_scoped3.slice (Rect.unit (s := S6) o1 S1.size i1)).squeeze S_ squeezes_S1_S_).sem
              ((Memref.whole main_arg2 : Memref sig .tc .hbm S8192x768 .f32).slice (Rect.unit (s := S8192x768) o3 S256x768.size i3) (fun _ => rfl))
              (((Memref.whole cc0_scoped2 : Memref sig .tc .vmem S6x256x768 .f32).slice (Rect.unit (s := S6x256x768) o2 S1x256x768.size i2) (fun _ => rfl)).squeeze S256x768 squeezes_S1x256x768_S256x768)
              (View.wordExact_bits rfl) ((View.wordExact_bits rfl).reshape _ _))) Q) := by
  subst h1 h2
  exact await c (srcw := ((Memref.whole main_arg2 : Memref sig .tc .hbm S8192x768 .f32).slice (Rect.unit (s := S8192x768) o3 S256x768.size i3) (fun _ => rfl)))
    (dstw := (((Memref.whole cc0_scoped2 : Memref sig .tc .vmem S6x256x768 .f32).slice (Rect.unit (s := S6x256x768) ![p % 6, 0, 0] S1x256x768.size i2) (fun _ => rfl)).squeeze S256x768 squeezes_S1x256x768_S256x768))
    (hsrc := (View.wordExact_bits rfl)) (hdst := ((View.wordExact_bits rfl).reshape _ _)) rfl (val b) (block LP c val b)

/-- Awaiting a result. -/
theorem awaitO (val : Fin 32 → S4x256x768.Idx → Elt F .f32) (p : ℕ) (b : Fin 32) (o1 : Fin 1 → ℕ) (o2 : Fin 4 → ℕ) (o3 : Fin 3 → ℕ)
    (h1 : o1 = ![p % 2]) (h2 : o3 = ![0, 256 * b.val, 0])
    (i1 : ∀ a, o1 a + S1.size a ≤ S2.size a) (i2 : ∀ a, o2 a + S1x4x256x768.size a ≤ S2x4x256x768.size a)
    (i3 : ∀ a, o3 a + S4x256x768.size a ≤ S4x8192x768.size a) {Q : PUnit → sProp 𝕄} :
    iprop(going LO c val p b ∗ waits c)
      ⊢ iprop((iprop(owns (c : Thread nD τ) (LO.blk b) fullShare (val b) ∗ owns (c : Thread nD τ) (LO.slot p) fullShare (val b)
            ∗ semVal ((c : Thread nD τ), SemLoc.dma (LO.sem p)) 0 ∗ waits c) -∗ Q ⟨⟩)
        -∗ wp frame (wpE (defs₀ (F := F)) Variants.none (c : Thread nD τ) none) Set.univ
            (Prog.lift (.waitDma2 ((cc0_scoped5.slice (Rect.unit (s := S2) o1 S1.size i1)).squeeze S_ squeezes_S1_S_).sem
              (((Memref.whole cc0_scoped4 : Memref sig .tc .vmem S2x4x256x768 .f32).slice (Rect.unit (s := S2x4x256x768) o2 S1x4x256x768.size i2) (fun _ => rfl)).squeeze S4x256x768 squeezes_S1x4x256x768_S4x256x768)
              ((Memref.whole main_v0 : Memref sig .tc .hbm S4x8192x768 .f32).slice (Rect.unit (s := S4x8192x768) o3 S4x256x768.size i3) (fun _ => rfl))
              ((View.wordExact_bits rfl).reshape _ _) (View.wordExact_bits rfl))) Q) := by
  subst h1 h2
  exact await c (srcw := (((Memref.whole cc0_scoped4 : Memref sig .tc .vmem S2x4x256x768 .f32).slice (Rect.unit (s := S2x4x256x768) o2 S1x4x256x768.size i2) (fun _ => rfl)).squeeze S4x256x768 squeezes_S1x4x256x768_S4x256x768))
    (dstw := ((Memref.whole main_v0 : Memref sig .tc .hbm S4x8192x768 .f32).slice (Rect.unit (s := S4x8192x768) ![0, 256 * b.val, 0] S4x256x768.size i3) (fun _ => rfl)))
    (hsrc := ((View.wordExact_bits rfl).reshape _ _)) (hdst := (View.wordExact_bits rfl)) rfl (val b) (owns (c : Thread nD τ) (LO.slot p) fullShare (val b))

/-- A slot read through its ring at the slot's place: the slot's values, with the slot's axis put back. -/
theorem loadSlot {s s' : Shape} {e : EltTy} (M : Memref sig .tc .vmem s e) (size o₀ o : Fin s.rank → ℕ) (ho : o = o₀)
    (i₀ : ∀ a, o₀ a + size a ≤ s.size a) (i : ∀ a, o a + size a ≤ s.size a)
    (hq : (⟨s.rank, size⟩ : Shape).Squeezes s') (hc : (⟨s.rank, size⟩ : Shape).ShapeCasts s') (hc' : s'.ShapeCasts ⟨s.rank, size⟩)
    {hl : M.view.LoadsAt (Rect.unit o size i).toLoadRect} {Q : ((⟨s.rank, size⟩ : Shape).Idx → Elt F e) → sProp 𝕄} (v : s'.Idx → Elt F e) :
    owns (c : Thread nD τ) ((M.slice (Rect.unit o₀ size i₀) (fun _ => rfl)).squeeze s' hq) fullShare v
      ⊢ iprop((owns (c : Thread nD τ) ((M.slice (Rect.unit o₀ size i₀) (fun _ => rfl)).squeeze s' hq) fullShare v -∗ Q (shapeCast ⟨s.rank, size⟩ v hc'))
        -∗ wp frame (wpE (defs₀ (F := F)) Variants.none (c : Thread nD τ) none) Set.univ
            (Prog.lift (.load M (Rect.unit o size i).toLoadRect hl)) Q) := by
  subst ho
  unfold owns
  rw [show ((M.slice (Rect.unit o size i₀) (fun _ => rfl)).squeeze s' hq).view.set = (M.access (Rect.unit o size i)).set from View.set_reshape _ _]
  iintro ⟨%f, %hf, H⟩ Hk
  iapply (wp_load_rect Variants.none (c : Thread nD τ) none Set.univ (Finset.Subset.refl _)) $$ H
  iintro H
  rw [wp_ret]; imodintro
  rw [show (M.access (Rect.unit o size i)).read (Elt F) f = shapeCast ⟨s.rank, size⟩ v hc' from by
    rw [← hf, Memref.read_squeeze_slice M _ _ hq hc f, shapeCast_shapeCast]; rfl]
  iapply Hk
  iexists f; isplitr
  · ipureintro; exact hf
  · iexact H

/-- A slot stored whole through its ring at the slot's place: the slot holds the stored values, its own axis dropped. -/
theorem storeSlot {s s' : Shape} {e : EltTy} (M : Memref sig .tc .vmem s e) (size o₀ o : Fin s.rank → ℕ) (ho : o = o₀)
    (i₀ : ∀ a, o₀ a + size a ≤ s.size a) (i : ∀ a, o a + size a ≤ s.size a)
    (hq : (⟨s.rank, size⟩ : Shape).Squeezes s') (hc : (⟨s.rank, size⟩ : Shape).ShapeCasts s')
    {hx : (M.access (Rect.unit o size i)).Stores Finset.univ} {hm : (Finset.univ : Finset (⟨s.rank, size⟩ : Shape).Idx) = Finset.univ ∨ ∀ a, (Rect.unit o size i).stride a = 1}
    {Q : PUnit → sProp 𝕄} (x : (⟨s.rank, size⟩ : Shape).Idx → Elt F e) :
    room c ((M.slice (Rect.unit o₀ size i₀) (fun _ => rfl)).squeeze s' hq)
      ⊢ iprop((owns (c : Thread nD τ) ((M.slice (Rect.unit o₀ size i₀) (fun _ => rfl)).squeeze s' hq) fullShare (shapeCast s' x hc) -∗ Q ⟨⟩)
        -∗ wp frame (wpE (defs₀ (F := F)) Variants.none (c : Thread nD τ) none) Set.univ
            (Prog.lift (.store M (Rect.unit o size i) x Finset.univ hx hm)) Q) := by
  subst ho
  unfold room owns
  rw [show ((M.slice (Rect.unit o size i₀) (fun _ => rfl)).squeeze s' hq).view.set = (M.access (Rect.unit o size i)).set from View.set_reshape _ _]
  iintro ⟨%f, H⟩ Hk
  iapply (wp_store (m := M) (r := Rect.unit o size i) (w := x) (hx := hx) (hm := hm) (S := (M.access (Rect.unit o size i)).set) (f := f) Variants.none (c : Thread nD τ) none Set.univ (Finset.Subset.refl _)) $$ H
  iintro H
  rw [wp_ret]; imodintro
  iapply Hk
  iexists _; isplitr
  swap; · iexact H
  ipureintro
  rw [Memref.read_squeeze_slice M (Rect.unit o size i) (fun _ => rfl) hq hc]
  exact congrArg (fun y => shapeCast s' y hc) (View.read_write_univ _ _)

/-- A room at a ring's place read through the ring: some values. -/
theorem loadRoom {s s' : Shape} {e : EltTy} (M : Memref sig .tc .vmem s e) (size o₀ o : Fin s.rank → ℕ) (ho : o = o₀)
    (i₀ : ∀ a, o₀ a + size a ≤ s.size a) (i : ∀ a, o a + size a ≤ s.size a)
    (hq : (⟨s.rank, size⟩ : Shape).Squeezes s')
    {hl : M.view.LoadsAt (Rect.unit o size i).toLoadRect} {Q : ((⟨s.rank, size⟩ : Shape).Idx → Elt F e) → sProp 𝕄} :
    room c ((M.slice (Rect.unit o₀ size i₀) (fun _ => rfl)).squeeze s' hq)
      ⊢ iprop((∀ x, room c ((M.slice (Rect.unit o₀ size i₀) (fun _ => rfl)).squeeze s' hq) -∗ Q x)
        -∗ wp frame (wpE (defs₀ (F := F)) Variants.none (c : Thread nD τ) none) Set.univ
            (Prog.lift (.load M (Rect.unit o size i).toLoadRect hl)) Q) := by
  subst ho
  unfold room
  rw [show ((M.slice (Rect.unit o size i₀) (fun _ => rfl)).squeeze s' hq).view.set = (M.access (Rect.unit o size i)).set from View.set_reshape _ _]
  iintro ⟨%f, H⟩ Hk
  iapply (wp_load_rect Variants.none (c : Thread nD τ) none Set.univ (Finset.Subset.refl _)) $$ H
  iintro H
  rw [wp_ret]; imodintro
  iapply Hk
  iexists f; iexact H

/-- A memref read whole. -/
theorem loadWhole {s : Shape} {e : EltTy} (M : Memref sig .tc .vmem s e) (o : Fin s.rank → ℕ) (i : ∀ a, o a + s.size a ≤ s.size a)
    {hl : M.view.LoadsAt (Rect.unit o s.size i).toLoadRect} {Q : (s.Idx → Elt F e) → sProp 𝕄} (v : s.Idx → Elt F e) :
    owns (c : Thread nD τ) M fullShare v
      ⊢ iprop((owns (c : Thread nD τ) M fullShare v -∗ Q v)
        -∗ wp frame (wpE (defs₀ (F := F)) Variants.none (c : Thread nD τ) none) Set.univ
            (Prog.lift (.load M (Rect.unit o s.size i).toLoadRect hl)) Q) := by
  have hr : ∀ x, (Rect.unit o s.size i).emb x = x := fun x => by
    funext a
    apply Fin.ext
    have := i a
    show o a + 1 * (x a).val = (x a).val
    omega
  unfold owns
  iintro ⟨%f, %hf, H⟩ Hk
  iapply (wp_load (m := M) (r := (Rect.unit o s.size i).toLoadRect) (hl := hl) (S := M.view.set) (f := f) Variants.none (c : Thread nD τ) none Set.univ (View.setOn_subset_set _ _)) $$ H
  iintro H
  rw [wp_ret]; imodintro
  rw [show M.view.readAt (Elt F) (Rect.unit o s.size i).toLoadRect f = v from by
    rw [← hf]; funext x
    show M.view.read (Elt F) f ((Rect.unit o s.size i).emb x) = _
    rw [hr]]
  iapply Hk
  iexists f; isplitr
  · ipureintro; exact hf
  · iexact H

end Printed

end Cert.KernelIdeal.Hand

end
-- ==== Proof.Trip.lean ====
/-
  Hand-written. One trip of the kernel's loop: it starts the fetch five blocks ahead, awaits its own
  blocks, computes its result tile, sends it, and awaits the previous trip's result.
-/
module

public import proofs.«01_k».proof.Proof.Words
public import proofs.«01_k».proof.Proof.Places

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
local notation "𝕄" => MT nD τ sig Unit (Elt F) ℕ (Pipeline.UD sig nD τ) ℕ

/-- One result tile, from its `x` tile, its position tile, gamma and beta. -/
def tileOf (x : S4x256x768.Idx → Elt F .f32) (p : S256x768.Idx → Elt F .f32) (g b : S768.Idx → Elt F .f32) : S4x256x768.Idx → Elt F .f32 :=
  shapeCast S4x256x768 (k0_pay3
    (k0_pay1 (shapeCast S1x4x256x768 x shapeCasts_S4x256x768_S1x4x256x768) (shapeCast S1x256x768 p shapeCasts_S256x768_S1x256x768))
    (k0_pay2 (shapeCast S1x4x256x768 x shapeCasts_S4x256x768_S1x4x256x768) (shapeCast S1x256x768 p shapeCasts_S256x768_S1x256x768)) g b)
    shapeCasts_S1x4x256x768_S4x256x768

variable (c : Dev nD) (vx vo : Fin 32 → S4x256x768.Idx → Elt F .f32) (vp : Fin 32 → S256x768.Idx → Elt F .f32)
  (G B : Memref sig .tc .vmem S768 .f32) (hG : G.IsWhole) (hB : B.IsWhole) (g b : S768.Idx → Elt F .f32)

/-- The words the loop carries before trip `k`. -/
abbrev carried (k : ℕ) : BitVec 32 × BitVec 32 × BitVec 32 × BitVec 32 × BitVec 32 × BitVec 32 × BitVec 32 :=
  (fetched k, w k, fetched k, w k, w k, w (k - 1), coord k)

/-- Equal values have the same postcondition. -/
theorem of_eq {α : Type} (Q : α → sProp 𝕄) {x y : α} (h : x = y) : Q x ⊢ Q y := h ▸ .rfl

/-- The words a trip computes first. -/
theorem part1 (k : Fin k0_t1_loop.trips)
    {Q : (Σ' (_ : k0_chk4 (w k)) (_ : k0_chk3 (w k)) (_ : k0_chk2 (w k)) (_ : k0_chk1 k (fetched k) (w k) (fetched k) (w k) (w k) (w (k - 1)) (coord k))
      (_ : BitVec 32) (_ : BitVec 1) (_ : BitVec 1) (_ : BitVec 32) (_ : BitVec 32) (_ : BitVec 32) (_ : BitVec 32), BitVec 32) → sProp 𝕄} :
    Q ⟨chk4_at k, chk3_at k, chk2_at k, chk1_at k, w k, Scalar.cmpi .eq (w k) 0#32, Scalar.cmpi .eq (w k) 31#32, w k, w ((k + 31) % 32), w ((k + 1) % 32), w ((k + 4) % 32), 0#32⟩
      ⊢ wp frame (wpE (defs₀ (F := F)) Variants.none (c : Thread nD τ) none) Set.univ
          (k0_part1 (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5
            0#32 1#32 k (fetched k) (w k) (fetched k) (w k) (w k) (w (k - 1)) (coord k)) Q := by
  rw [k0_part1_eq_skeleton]
  unfold k0_part1_skel
  simp only [wp_bind]
  iintro H
  iapply (wp_assume _ _ _ _ (chk4_at k)); rw [wp_ret]; imodintro
  iapply (wp_assume _ _ _ _ (chk3_at k)); rw [wp_ret]; imodintro
  iapply (wp_assume _ _ _ _ (chk2_at k)); rw [wp_ret]; imodintro
  iapply (wp_assume _ _ _ _ (chk1_at k)); rw [wp_ret]; imodintro
  rw [wp_pure]; imodintro
  iapply (of_eq Q ?_) $$ H
  simp only [PSigma.mk.injEq, heq_eq_eq, true_and, and_true]
  clear Q
  revert k; decide +kernel

/-- The fetch five blocks ahead. -/
theorem part2 (k : Fin k0_t1_loop.trips) (h1 : k0_chk1 k (fetched k) (w k) (fetched k) (w k) (w k) (w (k - 1)) (coord k))
    {Q : (Σ' (_ : BitVec 32) (_ : BitVec 32) (_ : BitVec 1), BitVec 1) → sProp 𝕄} :
    iprop(ring LX c vx k ∗ ring LP c vp k)
      ⊢ iprop((∀ v213 v215, ringFull LX c vx k ∗ ringFull LP c vp k -∗ Q ⟨fetched (k + 1), fetched (k + 1), v213, v215⟩)
        -∗ wp frame (wpE (defs₀ (F := F)) Variants.none (c : Thread nD τ) none) Set.univ
          (k0_part2 (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5
            k (fetched k) (w k) (fetched k) (w k) (w k) (w (k - 1)) (coord k) h1 (w k) (w k) (w ((k + 1) % 32)) (w ((k + 4) % 32)) 0#32) Q) := by
  rw [k0_part2_eq_skeleton]
  unfold k0_part2_skel
  by_cases h : k.val + 5 < 32
  · obtain ⟨⟨hx1, hx2, hx3⟩, hp1, hp2, hp3⟩ := off_fetch k h
    rw [dif_pos ((cond9_at k).mpr h), dif_pos ((cond10_at k).mpr h)]
    simp only [wp_bind]
    iintro ⟨HX, HP⟩ Hk
    ihave HX := (ring_take LX c vx k h) $$ HX
    ihave HP := (ring_take LP c vp k h) $$ HP
    icases HX with ⟨HX, HX'⟩
    icases HP with ⟨HP, HP'⟩
    iapply (fetchX c vx (k + 5) ⟨k + 5, h⟩ _ _ _ hx1 hx2 hx3 _ _ _) $$ HX
    iintro HX
    iapply (fetchP c vp (k + 5) ⟨k + 5, h⟩ _ _ _ hp1 hp2 hp3 _ _ _) $$ HP
    iintro HP
    rw [wp_pure]; imodintro
    ihave HX := HX' $$ HX
    ihave HP := HP' $$ HP
    ispecialize Hk $$ %(Scalar.cmpi .ne (w k) (w ((k + 1) % 32))) %(Scalar.xori (Scalar.cmpi .sge (w k) 31#32) 1#1) [HX HP]
    · isplitl [HX]; · iexact HX
      iexact HP
    iapply (of_eq Q ?_) $$ Hk
    simp only [PSigma.mk.injEq, heq_eq_eq, true_and, and_true]
    clear Q h hx1 hx2 hx3 hp1 hp2 hp3 h1
    revert k; decide +kernel
  · rw [dif_neg (mt (cond9_at k).mp h), dif_neg (mt (cond10_at k).mp h)]
    simp only [wp_bind]
    iintro ⟨HX, HP⟩ Hk
    ihave HX := (ring_skip LX c vx k h) $$ HX
    ihave HP := (ring_skip LP c vp k h) $$ HP
    rw [wp_pure]; imodintro
    ispecialize Hk $$ %(Scalar.cmpi .ne (w k) (w ((k + 1) % 32))) %(Scalar.xori (Scalar.cmpi .sge (w k) 31#32) 1#1) [HX HP]
    · isplitl [HX]; · iexact HX
      iexact HP
    iapply (of_eq Q ?_) $$ Hk
    simp only [PSigma.mk.injEq, heq_eq_eq, true_and, and_true]
    clear Q h h1
    revert k; decide +kernel

/-- Awaiting the trip's own blocks, and the first half of its arithmetic on them. -/
theorem part3 (k : Fin k0_t1_loop.trips) (h3 : k0_chk3 (w k)) (h2 : k0_chk2 (w k))
    (h1 : k0_chk1 k (fetched k) (w k) (fetched k) (w k) (w k) (w (k - 1)) (coord k)) (v213 v215 : BitVec 1)
    {Q : (Σ' (_ : BitVec 32) (_ : FVec F S4x256x768 .f32), FVec F S4x256x1 .f32) → sProp 𝕄} :
    iprop(ringFull LX c vx k ∗ ringFull LP c vp k ∗ waits c)
      ⊢ iprop((∀ v237, (ringRest LX c vx k ∗ ready LX c k) ∗ (ringRest LP c vp k ∗ ready LP c k) ∗ waits c
            -∗ Q ⟨v237, k0_pay1 (shapeCast S1x4x256x768 (vx k) shapeCasts_S4x256x768_S1x4x256x768) (shapeCast S1x256x768 (vp k) shapeCasts_S256x768_S1x256x768),
                k0_pay2 (shapeCast S1x4x256x768 (vx k) shapeCasts_S4x256x768_S1x4x256x768) (shapeCast S1x256x768 (vp k) shapeCasts_S256x768_S1x256x768)⟩)
        -∗ wp frame (wpE (defs₀ (F := F)) Variants.none (c : Thread nD τ) none) Set.univ
          (k0_part3 (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5
            k (fetched k) (w k) (fetched k) (w k) (w k) (w (k - 1)) (coord k) h3 h2 h1 (w k) (Scalar.cmpi .eq (w k) 0#32) (w k) (w ((k + 31) % 32)) v213 v215) Q) := by
  obtain ⟨⟨hx1, hx2⟩, hp1, hp2, hx3, hp3⟩ := off_await k
  rw [k0_part3_eq_skeleton]
  unfold k0_part3_skel
  rw [dif_pos (cond11_at k), dif_pos (cond12_at k)]
  simp only [wp_bind, ite_self]
  iintro ⟨HX, HP, HW⟩ Hk
  ihave HX := (ring_own LX c vx k k.isLt) $$ HX
  ihave HP := (ring_own LP c vp k k.isLt) $$ HP
  icases HX with ⟨HX, HX'⟩
  icases HP with ⟨HP, HP'⟩
  iapply (awaitX c vx k ⟨k, k.isLt⟩ _ _ _ hx1 hx2 _ _ _) $$ [HX HW]
  · isplitl [HX]; · iexact HX
    iexact HW
  iintro ⟨HX, Hb, HvX, HW⟩
  ihave HX' := HX' $$ Hb
  iapply (awaitP c vp k ⟨k, k.isLt⟩ _ _ _ hp1 hp2 _ _ _) $$ [HP HW]
  · isplitl [HP]; · iexact HP
    iexact HW
  iintro ⟨HP, Hb, HvP, HW⟩
  ihave HP' := HP' $$ Hb
  iapply (loadSlot c (Memref.whole cc0_scoped0 : Memref sig .tc .vmem S6x4x256x768 .f32) S1x4x256x768.size _ _ hx3 (inb_xslot k) _
    squeezes_S1x4x256x768_S4x256x768 shapeCasts_S1x4x256x768_S4x256x768 shapeCasts_S4x256x768_S1x4x256x768 (vx ⟨k, k.isLt⟩)) $$ HX
  iintro HX
  iapply (loadSlot c (Memref.whole cc0_scoped2 : Memref sig .tc .vmem S6x256x768 .f32) S1x256x768.size _ _ hp3 (inb_pslot k) _
    squeezes_S1x256x768_S256x768 shapeCasts_S1x256x768_S256x768 shapeCasts_S256x768_S1x256x768 (vp ⟨k, k.isLt⟩)) $$ HP
  iintro HP
  rw [wp_pure]; imodintro
  ispecialize Hk $$ %(Scalar.remui (w k) 2#32) [HX HP HX' HP' HvX HvP HW]
  · unfold ready
    isplitl [HX HX' HvX]
    · isplitl [HX']; · iexact HX'
      isplitl [HX]
      · iapply (room_of_owns c (LX.slot k) (vx ⟨k, k.isLt⟩)); iexact HX
      iexact HvX
    isplitl [HP HP' HvP]
    · isplitl [HP']; · iexact HP'
      isplitl [HP]
      · iapply (room_of_owns c (LP.slot k) (vp ⟨k, k.isLt⟩)); iexact HP
      iexact HvP
    iexact HW
  iapply (of_eq Q ?_) $$ Hk
  rfl

/-- The rest of the trip's arithmetic, its result stored and sent. -/
theorem part4 (k : Fin k0_t1_loop.trips) (hvo : ∀ b', vo b' = tileOf (vx b') (vp b') g b) (h4 : k0_chk4 (w k))
    (h1 : k0_chk1 k (fetched k) (w k) (fetched k) (w k) (w k) (w (k - 1)) (coord k)) (v237 : BitVec 32)
    {Q : (Σ' (_ : BitVec 32) (_ : BitVec 1) (_ : BitVec 32), BitVec 32) → sProp 𝕄} :
    iprop(outRing LO c vo k ∗ owns (c : Thread nD τ) G fullShare g ∗ owns (c : Thread nD τ) B fullShare b)
      ⊢ iprop((∀ v294 v295 z, outSent LO c vo k ∗ owns (c : Thread nD τ) G fullShare g ∗ owns (c : Thread nD τ) B fullShare b
            -∗ Q ⟨w (k + 1), v294, v295, z⟩)
        -∗ wp frame (wpE (defs₀ (F := F)) Variants.none (c : Thread nD τ) none) Set.univ
          (k0_part4 (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5
            k (fetched k) (w k) (fetched k) (w k) (w k) (w (k - 1)) (coord k) h4 h1 (Scalar.cmpi .eq (w k) 0#32) (Scalar.cmpi .eq (w k) 31#32)
            (w k) (w ((k + 31) % 32)) (w ((k + 1) % 32)) v237
            (k0_pay1 (shapeCast S1x4x256x768 (vx k) shapeCasts_S4x256x768_S1x4x256x768) (shapeCast S1x256x768 (vp k) shapeCasts_S256x768_S1x256x768))
            (k0_pay2 (shapeCast S1x4x256x768 (vx k) shapeCasts_S4x256x768_S1x4x256x768) (shapeCast S1x256x768 (vp k) shapeCasts_S256x768_S1x256x768))) Q) := by
  obtain ⟨h42, h43, h44, h45⟩ := off_send k
  rw [k0_part4_eq_skeleton]
  unfold k0_part4_skel outRing ready
  rw [dif_pos (cond16_at k)]
  simp only [wp_bind, ite_self]
  iintro ⟨⟨⟨HR, Hv⟩, Hb, Ha, Hu⟩, HG, HB⟩ Hk
  iapply (loadWhole c G ![0] inb_S768_S768_0 g) $$ HG
  iintro HG
  iapply (loadWhole c B ![0] inb_S768_S768_0 b) $$ HB
  iintro HB
  iapply (loadRoom c (Memref.whole cc0_scoped4 : Memref sig .tc .vmem S2x4x256x768 .f32) S1x4x256x768.size _ _ h42 (inb_oslot k) _
    squeezes_S1x4x256x768_S4x256x768) $$ HR
  iintro %old HR
  iapply (storeSlot c (Memref.whole cc0_scoped4 : Memref sig .tc .vmem S2x4x256x768 .f32) S1x4x256x768.size _ _ h42 (inb_oslot k) _
    squeezes_S1x4x256x768_S4x256x768 shapeCasts_S1x4x256x768_S4x256x768 _) $$ HR
  iintro HR
  ihave Ho := (out_take LO c vo k k.isLt) $$ [Hb Ha Hu]
  · unfold outRest
    isplitl [Hb]; · iexact Hb
    isplitl [Ha]; · iexact Ha
    iexact Hu
  icases Ho with ⟨Hd, Ho⟩
  have e : vo ⟨k, k.isLt⟩ = tileOf (vx k) (vp k) g b := hvo ⟨k, k.isLt⟩
  unfold tileOf at e
  rw [← e]
  iapply (sendO c vo k ⟨k, k.isLt⟩ _ _ _ h43 h45 h44 _ _ _) $$ [HR Hv Hd]
  · isplitl [HR]; · iexact HR
    isplitl [Hv]; · iexact Hv
    iexact Hd
  iintro Hg
  ihave Ho := Ho $$ Hg
  rw [wp_pure]; imodintro
  ispecialize Hk $$ %(Scalar.andi (Scalar.cmpi .ne (w k) (w ((k + 31) % 32))) (Scalar.xori (Scalar.cmpi .eq (w k) 0#32) 1#1))
    %(Scalar.extui (Scalar.andi (Scalar.cmpi .ne (w k) (w ((k + 31) % 32))) (Scalar.xori (Scalar.cmpi .eq (w k) 0#32) 1#1))) %(0#32) [Ho HG HB]
  · isplitl [Ho]; · iexact Ho
    isplitl [HG]; · iexact HG
    iexact HB
  iapply (of_eq Q ?_) $$ Hk
  simp only [PSigma.mk.injEq, heq_eq_eq, true_and, and_true]
  clear Q h1 h4 h42 h43 h44 h45 e
  revert k; decide +kernel

/-- A whole trip: it takes the rings, the output and the carried words from before trip `k` to before trip `k + 1`. -/
theorem trip (k : Fin k0_t1_loop.trips) (hvo : ∀ b', vo b' = tileOf (vx b') (vp b') g b) (v20 v25 v84 v91 : BitVec 32) (v92 z : BitVec 1)
    {Q : BitVec 32 × BitVec 32 × BitVec 32 × BitVec 32 × BitVec 32 × BitVec 32 × BitVec 32 → sProp 𝕄} :
    iprop(ring LX c vx k ∗ ring LP c vp k ∗ outRing LO c vo k ∗ owns (c : Thread nD τ) G fullShare g ∗ owns (c : Thread nD τ) B fullShare b ∗ waits c)
      ⊢ iprop((ring LX c vx (k + 1) ∗ ring LP c vp (k + 1) ∗ outRing LO c vo (k + 1) ∗ owns (c : Thread nD τ) G fullShare g ∗ owns (c : Thread nD τ) B fullShare b ∗ waits c
            -∗ Q (carried (k + 1)))
        -∗ wp frame (wpE (defs₀ (F := F)) Variants.none (c : Thread nD τ) none) Set.univ
          (k0_t1_body (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5
            v20 v25 v84 v91 v92 z k (carried k)) Q) := by
  unfold k0_t1_body carried
  simp only [wp_bind]
  iintro ⟨HX, HP, HO, HG, HB, HW⟩ Hk
  iapply (part1 c G B hG hB k)
  iapply (part2 c vx vp G B hG hB k _) $$ [HX HP]
  · isplitl [HX]; · iexact HX
    iexact HP
  iintro %v213 %v215 ⟨HX, HP⟩
  iapply (part3 c vx vp G B hG hB k _ _ _ v213 v215) $$ [HX HP HW]
  · isplitl [HX]; · iexact HX
    isplitl [HP]; · iexact HP
    iexact HW
  iintro %v237 ⟨HX, HP, HW⟩
  iapply (part4 c vx vo vp G B hG hB g b k hvo _ _ v237) $$ [HO HG HB]
  · isplitl [HO]; · iexact HO
    isplitl [HG]; · iexact HG
    iexact HB
  iintro %v294 %v295 %z' ⟨HO, HG, HB⟩
  simp only [ite_self]
  ihave HX := (ring_next LX c vx LX_slot LX_sem k) $$ HX
  ihave HP := (ring_next LP c vp LP_slot LP_sem k) $$ HP
  by_cases h : 0 < k.val
  · rw [dif_pos ((cond19_at k).mpr h)]
    have e := off_sent k
    have e' := off_sent_to k h
    obtain ⟨n, hn⟩ : ∃ n, k.val = n + 1 := ⟨k.val - 1, by omega⟩
    have hn' : n < 32 := by have := k.isLt; have : k.val < 32 := this; omega
    ihave HO := (of_eq (outSent LO c vo) hn) $$ HO
    ihave HO := (out_later LO c vo LO_slot LO_sem n hn') $$ HO
    icases HO with ⟨HO, HO'⟩
    simp only [wp_bind]
    iapply (awaitO c vo n ⟨n, hn'⟩ _ _ _ (e.trans (by rw [hn]; rfl)) (e'.trans (by rw [hn]; rfl)) _ _ _) $$ [HO HW]
    · isplitl [HO]; · iexact HO
      iexact HW
    iintro ⟨Hd, Hs, Hv, HW⟩
    ihave HO := HO' $$ [Hd Hs Hv]
    · isplitl [Hd]; · iexact Hd
      isplitl [Hs]; · iexact Hs
      iexact Hv
    ihave HO := (of_eq (fun i => outRing LO c vo (i + 1)) hn.symm) $$ HO
    rw [wp_pure]; imodintro
    ihave Hk := Hk $$ [HX HP HO HG HB HW]
    · isplitl [HX]; · iexact HX
      isplitl [HP]; · iexact HP
      isplitl [HO]; · iexact HO
      isplitl [HG]; · iexact HG
      isplitl [HB]; · iexact HB
      iexact HW
    iapply (of_eq Q ?_) $$ Hk
    simp only [Prod.mk.injEq, true_and, and_true]
    clear Q e e' hn
    revert k; decide +kernel
  · rw [dif_neg (mt (cond19_at k).mp h)]
    have hn : k.val = 0 := by omega
    ihave HO := (of_eq (outSent LO c vo) hn) $$ HO
    ihave HO := (out_first LO c vo) $$ HO
    ihave HO := (of_eq (fun i => outRing LO c vo (i + 1)) hn.symm) $$ HO
    rw [wp_pure]; imodintro
    ihave Hk := Hk $$ [HX HP HO HG HB HW]
    · isplitl [HX]; · iexact HX
      isplitl [HP]; · iexact HP
      isplitl [HO]; · iexact HO
      isplitl [HG]; · iexact HG
      isplitl [HB]; · iexact HB
      iexact HW
    iapply (of_eq Q ?_) $$ Hk
    simp only [Prod.mk.injEq, true_and, and_true]
    clear Q h
    revert k; decide +kernel

end Cert.KernelIdeal.Hand

end
-- ==== Proof.Body.lean ====
/-
  Hand-written. The kernel: five fetches into each ring, the loop, and the wait for the last result.
-/
module

public import proofs.«01_k».proof.Proof.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
local notation "𝕄" => MT nD τ sig Unit (Elt F) ℕ (Pipeline.UD sig nD τ) ℕ

variable (c : Dev nD) (vx vo : Fin 32 → S4x256x768.Idx → Elt F .f32) (vp : Fin 32 → S256x768.Idx → Elt F .f32)
  (G B : Memref sig .tc .vmem S768 .f32) (hG : G.IsWhole) (hB : B.IsWhole) (g b : S768.Idx → Elt F .f32)

/-- What the trips keep: the words they carry, the two rings, the output, gamma and beta, and the wait set. -/
def inv (k : ℕ) (acc : BitVec 32 × BitVec 32 × BitVec 32 × BitVec 32 × BitVec 32 × BitVec 32 × BitVec 32) : sProp 𝕄 :=
  iprop(⌜acc = carried k⌝ ∗ ring LX c vx k ∗ ring LP c vp k ∗ outRing LO c vo k
    ∗ owns (c : Thread nD τ) G fullShare g ∗ owns (c : Thread nD τ) B fullShare b ∗ waits c)

/-- What the kernel uses beside its windows: the rings at rest with their source blocks, the output ring, and the output's blocks. -/
def atRest (out : Fin 32 → sProp 𝕄) : sProp 𝕄 :=
  iprop(idle LX c vx ∗ idle LP c vp ∗ ready LO c 0 ∗ ready LO c 1 ∗ bigSep Finset.univ out)

/-- The loop's step keeps the invariant. -/
theorem inv_step (hvo : ∀ b', vo b' = tileOf (vx b') (vp b') g b) (v20 v25 v84 v91 : BitVec 32) (v92 z : BitVec 1) (k : Fin k0_t1_loop.trips)
    (acc : BitVec 32 × BitVec 32 × BitVec 32 × BitVec 32 × BitVec 32 × BitVec 32 × BitVec 32) :
    inv c vx vo vp G B g b k acc
      ⊢ wp frame (wpE (defs₀ (F := F)) Variants.none (c : Thread nD τ) none) Set.univ
          (k0_t1_body (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5
            v20 v25 v84 v91 v92 z k acc) (inv c vx vo vp G B g b (k.val + 1)) := by
  conv => lhs; unfold inv
  iintro ⟨%e, H⟩
  subst e
  iapply (trip c vx vo vp G B hG hB g b k hvo v20 v25 v84 v91 v92 z) $$ H
  iintro H
  unfold inv
  isplitr; · ipureintro; rfl
  iexact H

/-- The block numbers computed before the first fetches. -/
theorem part5 {Q : (Σ' (_ : BitVec 32) (_ : BitVec 32) (_ : BitVec 32) (_ : BitVec 32), BitVec 32) → sProp 𝕄} :
    Q ⟨1#32, 2#32, 3#32, 4#32, 5#32⟩
      ⊢ wp frame (wpE (defs₀ (F := F)) Variants.none (c : Thread nD τ) none) Set.univ
          (k0_part5 (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5) Q := by
  rw [k0_part5_eq_skeleton]; unfold k0_part5_skel
  iintro H
  rw [wp_pure]; imodintro
  iapply (of_eq Q ?_) $$ H
  simp only [PSigma.mk.injEq, heq_eq_eq, true_and, and_true]
  decide +kernel

/-- The kernel takes the rings and the output at rest, the output's blocks holding anything, to the same with the output's
    blocks at the result tiles. -/
theorem outer (hvo : ∀ b', vo b' = tileOf (vx b') (vp b') g b) {Q : PUnit → sProp 𝕄} :
    iprop(atRest c vx vp (fun i => room c (LO.blk i)) ∗ owns (c : Thread nD τ) G fullShare g ∗ owns (c : Thread nD τ) B fullShare b ∗ waits c)
      ⊢ iprop((atRest c vx vp (block LO c vo) ∗ owns (c : Thread nD τ) G fullShare g ∗ owns (c : Thread nD τ) B fullShare b ∗ waits c -∗ Q ⟨⟩)
        -∗ wp frame (wpE (defs₀ (F := F)) Variants.none (c : Thread nD τ) none) Set.univ
          (cc0_outer (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5) Q) := by
  obtain ⟨z1, z2, z3⟩ := off_start0
  obtain ⟨a1, a2, a3, a4, a5, a6⟩ := off_start1
  obtain ⟨b1, b2, b3, b4, b5, b6⟩ := off_start2
  obtain ⟨c1, c2, c3, c4, c5, c6⟩ := off_start3
  obtain ⟨d1, d2, d3, d4, d5, d6⟩ := off_start4
  obtain ⟨e1, e2⟩ := off_end
  obtain ⟨h1, h2, h3, h4, h5, h6, h7, h8⟩ := cond_start
  rw [cc0_outer_eq_skeleton]
  unfold cc0_outer_skel atRest
  simp only [wp_bind]
  iintro ⟨⟨HX, HP, HO0, HO1, HO⟩, HG, HB, HW⟩ Hk
  ihave HX := (idle_start LX c vx) $$ HX
  ihave HP := (idle_start LP c vp) $$ HP
  icases HX with ⟨X0, X1, X2, X3, X4, HX⟩
  icases HP with ⟨P0, P1, P2, P3, P4, HP⟩
  iapply (part5 c G B hG hB)
  rw [k0_part6_eq_skeleton]; unfold k0_part6_skel
  simp only [wp_bind, dif_pos h1]
  iapply (fetchX c vx 0 0 _ _ _ z1 z2 rfl _ _ _) $$ X0
  iintro X0
  iapply (fetchP c vp 0 0 _ _ _ z1 z3 rfl _ _ _) $$ P0
  iintro P0
  iapply (fetchX c vx 1 1 _ _ _ a1 a2 a3 _ _ _) $$ X1
  iintro X1
  rw [wp_pure]; imodintro
  rw [k0_part7_eq_skeleton]; unfold k0_part7_skel
  simp only [wp_bind, dif_pos h2, dif_pos h3, dif_pos h4, dif_pos h5, dif_pos h6]
  iapply (fetchP c vp 1 1 _ _ _ a4 a5 a6 _ _ _) $$ P1
  iintro P1
  iapply (fetchX c vx 2 2 _ _ _ b1 b2 b3 _ _ _) $$ X2
  iintro X2
  iapply (fetchP c vp 2 2 _ _ _ b4 b5 b6 _ _ _) $$ P2
  iintro P2
  iapply (fetchX c vx 3 3 _ _ _ c1 c2 c3 _ _ _) $$ X3
  iintro X3
  iapply (fetchP c vp 3 3 _ _ _ c4 c5 c6 _ _ _) $$ P3
  iintro P3
  rw [wp_pure]; imodintro
  rw [k0_part8_eq_skeleton]; unfold k0_part8_skel
  simp only [wp_bind, dif_pos h7, dif_pos h8]
  iapply (fetchX c vx 4 4 _ _ _ d1 d2 d3 _ _ _) $$ X4
  iintro X4
  iapply (fetchP c vp 4 4 _ _ _ d4 d5 d6 _ _ _) $$ P4
  iintro P4
  ihave HX := HX $$ [X0 X1 X2 X3 X4]
  · isplitl [X0]; · iexact X0
    isplitl [X1]; · iexact X1
    isplitl [X2]; · iexact X2
    isplitl [X3]; · iexact X3
    iexact X4
  ihave HP := HP $$ [P0 P1 P2 P3 P4]
  · isplitl [P0]; · iexact P0
    isplitl [P1]; · iexact P1
    isplitl [P2]; · iexact P2
    isplitl [P3]; · iexact P3
    iexact P4
  ihave HO := (out_start LO c vo) $$ [HO0 HO1 HO]
  · isplitl [HO0]; · iexact HO0
    isplitl [HO1]; · iexact HO1
    iexact HO
  iapply (Scf.wp_for frame (wpE (defs₀ (F := F)) Variants.none (c : Thread nD τ) none) Set.univ _ _ _ _ _ _ (inv c vx vo vp G B g b)
    (inv_step c vx vo vp G B hG hB g b hvo _ _ _ _ _ _))
  isplitl [HX HP HO HG HB HW]
  · unfold inv
    isplitr; · ipureintro; simp only [Prod.mk.injEq]; decide +kernel
    isplitl [HX]; · iexact HX
    isplitl [HP]; · iexact HP
    isplitl [HO]; · iexact HO
    isplitl [HG]; · iexact HG
    isplitl [HB]; · iexact HB
    iexact HW
  iintro %acc H
  ihave H := (of_eq (fun i => inv c vx vo vp G B g b i acc) (show _ = 32 from by decide +kernel)) $$ H
  unfold inv
  icases H with ⟨%e, HX, HP, HO, HG, HB, HW⟩
  subst e
  iapply (wp_assume _ _ _ _ chk6_end); rw [wp_ret]; imodintro
  iapply (wp_assume _ _ _ _ chk5_end); rw [wp_ret]; imodintro
  rw [wp_pure]; imodintro
  rw [k0_part9_eq_skeleton]; unfold k0_part9_skel
  rw [wp_pure]; imodintro
  ihave HO := (out_end LO c vo LO_slot LO_sem) $$ HO
  icases HO with ⟨HO, HO'⟩
  iapply (awaitO c vo 31 31 _ _ _ e1 e2 _ _ _) $$ [HO HW]
  · isplitl [HO]; · iexact HO
    iexact HW
  iintro ⟨Hd, Hs, Hv, HW⟩
  ihave HO := HO' $$ [Hd Hs Hv]
  · isplitl [Hd]; · iexact Hd
    isplitl [Hs]; · iexact Hs
    iexact Hv
  icases HO with ⟨HO0, HO1, HO⟩
  ihave HX := (ring_end LX c vx LX_slot LX_sem) $$ HX
  ihave HP := (ring_end LP c vp LP_slot LP_sem) $$ HP
  rw [wp_pure]; imodintro
  iapply Hk
  isplitr [HG HB HW]
  · isplitl [HX]; · iexact HX
    isplitl [HP]; · iexact HP
    isplitl [HO0]; · iexact HO0
    isplitl [HO1]; · iexact HO1
    iexact HO
  isplitl [HG]; · iexact HG
  isplitl [HB]; · iexact HB
  iexact HW

end Cert.KernelIdeal.Hand
-- ==== Proof.Arrays.lean ====
/-
  Hand-written. The arrays and the scratch as the launch hands them over, cut into the kernel's blocks and slots, and joined again.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline library's beside the transfers' counters. -/
local notation "𝕄" => MT nD τ sig Unit (Elt F) ℕ (Pipeline.UD sig nD τ) ℕ

variable (c : Dev nD)

/-- Rows `256 b` to `256 b + 255` of an array of four batches, as a rectangle. -/
abbrev rowsRect (b : Fin 32) : Rect S4x8192x768 := Rect.unit (s := S4x8192x768) ![0, 256 * b.val, 0] S4x256x768.size (inb_xblk b)
/-- Rows `256 b` to `256 b + 255` of the position table, as a rectangle. -/
abbrev tableRect (b : Fin 32) : Rect S8192x768 := Rect.unit (s := S8192x768) ![256 * b.val, 0] S256x768.size (inb_pblk b)

/-- Block `b` of an array of four batches. -/
def xTile (f : S4x8192x768.Idx → Elt F .f32) (b : Fin 32) : S4x256x768.Idx → Elt F .f32 := fun j => f ((rowsRect b).emb j)
/-- Block `b` of the position table. -/
def pTile (f : S8192x768.Idx → Elt F .f32) (b : Fin 32) : S256x768.Idx → Elt F .f32 := fun j => f ((tableRect b).emb j)

theorem rows_disjoint (b b' : Fin 32) (h : b ≠ b') : Disjoint (rowsRect b).set (rowsRect b').set :=
  Ring.lead_disjoint (s := S4x8192x768) (1 : Fin 3) 256 (fun b : Fin 32 => ![0, 256 * b.val, 0]) S4x256x768.size inb_xblk (fun _ => rfl) rfl b b' h
theorem rows_cover : Finset.univ.biUnion (fun b : Fin 32 => (rowsRect b).set) = Finset.univ :=
  Ring.lead_cover (s := S4x8192x768) (1 : Fin 3) 256 (fun b : Fin 32 => ![0, 256 * b.val, 0]) S4x256x768.size inb_xblk (fun _ => rfl)
    (fun b a h => by fin_cases a <;> first | rfl | exact absurd rfl h) rfl (fun a h => by fin_cases a <;> first | rfl | exact absurd rfl h) rfl
theorem table_disjoint (b b' : Fin 32) (h : b ≠ b') : Disjoint (tableRect b).set (tableRect b').set :=
  Ring.lead_disjoint (s := S8192x768) (0 : Fin 2) 256 (fun b : Fin 32 => ![256 * b.val, 0]) S256x768.size inb_pblk (fun _ => rfl) rfl b b' h
theorem table_cover : Finset.univ.biUnion (fun b : Fin 32 => (tableRect b).set) = Finset.univ :=
  Ring.lead_cover (s := S8192x768) (0 : Fin 2) 256 (fun b : Fin 32 => ![256 * b.val, 0]) S256x768.size inb_pblk (fun _ => rfl)
    (fun b a h => by fin_cases a <;> first | rfl | exact absurd rfl h) rfl (fun a h => by fin_cases a <;> first | rfl | exact absurd rfl h) rfl

/-- An array of four batches held whole is held block by block. -/
theorem rows_split (f : S4x8192x768.Idx → Elt F .f32) (M : Memref sig .tc .hbm S4x8192x768 .f32) :
    (owns (c : Thread nD τ) M fullShare f : sProp 𝕄) ⊢ bigSep Finset.univ fun b => owns (c : Thread nD τ) (rows M b) fullShare (xTile f b) :=
  owns_rects (c : Thread nD τ) M fullShare rowsRect (fun _ _ => rfl) rows_disjoint rows_cover f
/-- Blocks of an array of four batches held block by block are the array held whole. -/
theorem rows_join (f : S4x8192x768.Idx → Elt F .f32) (M : Memref sig .tc .hbm S4x8192x768 .f32) :
    (bigSep Finset.univ fun b => owns (c : Thread nD τ) (rows M b) fullShare (xTile f b)) ⊢ (owns (c : Thread nD τ) M fullShare f : sProp 𝕄) :=
  owns_of_rects (c : Thread nD τ) M fullShare rowsRect (fun _ _ => rfl) rows_disjoint rows_cover f

/-- The position table held whole is held block by block. -/
theorem table_split (f : S8192x768.Idx → Elt F .f32) (M : Memref sig .tc .hbm S8192x768 .f32) :
    (owns (c : Thread nD τ) M fullShare f : sProp 𝕄)
      ⊢ bigSep Finset.univ fun b => owns (c : Thread nD τ) (M.slice (tableRect b) (fun _ => rfl)) fullShare (pTile f b) :=
  owns_rects (c : Thread nD τ) M fullShare tableRect (fun _ _ => rfl) table_disjoint table_cover f
/-- Blocks of the position table are the table held whole. -/
theorem table_join (f : S8192x768.Idx → Elt F .f32) (M : Memref sig .tc .hbm S8192x768 .f32) :
    (bigSep Finset.univ fun b => owns (c : Thread nD τ) (M.slice (tableRect b) (fun _ => rfl)) fullShare (pTile f b))
      ⊢ (owns (c : Thread nD τ) M fullShare f : sProp 𝕄) :=
  owns_of_rects (c : Thread nD τ) M fullShare tableRect (fun _ _ => rfl) table_disjoint table_cover f

/-- A scratch buffer of tiles holds its slots. -/
theorem slots_of {n : ℕ} {ℓ : Loc nD τ sig} (I : Fin n → Finset (Idx ℓ)) (hd : ∀ b b', b ≠ b' → Disjoint (I b) (I b'))
    (hc : Finset.univ.biUnion I = Finset.univ) (S : Fin n → sProp 𝕄) (hS : ∀ p, S p = iprop(∃ f, ℓ ↦[I p]{fullShare} f)) :
    (iprop(∃ f, ℓ ↦{fullShare} f) : sProp 𝕄) ⊢ bigSep Finset.univ S := by
  refine exists_elim fun f => ?_
  rw [Ring.pointsTo_blocks I hd hc f, show S = fun p => iprop(∃ f, ℓ ↦[I p]{fullShare} f) from funext hS]
  have h (p : Fin n) : BIBase.Entails (ℓ ↦[I p]{fullShare} f : sProp 𝕄) iprop(∃ f, ℓ ↦[I p]{fullShare} f) :=
    exists_intro (Φ := fun f => (ℓ ↦[I p]{fullShare} f : sProp 𝕄)) f
  exact bigSep_mono fun p _ => h p

/-- The slots of a scratch buffer are the scratch buffer. -/
theorem of_slots {n : ℕ} {ℓ : Loc nD τ sig} (I : Fin n → Finset (Idx ℓ)) (hd : ∀ b b', b ≠ b' → Disjoint (I b) (I b'))
    (hc : Finset.univ.biUnion I = Finset.univ) (S : Fin n → sProp 𝕄) (hS : ∀ p, S p = iprop(∃ f, ℓ ↦[I p]{fullShare} f)) (f₀ : Buf (Elt F) ℓ) :
    bigSep Finset.univ S ⊢ (iprop(∃ f, ℓ ↦{fullShare} f) : sProp 𝕄) := by
  rw [show S = fun p => iprop(∃ f, ℓ ↦[I p]{fullShare} f) from funext hS]
  exact Ring.pointsTo_blocks_join_exists I hd hc f₀

/-- Slot `p` of the ring of input tiles, as a rectangle of its scratch. -/
abbrev slotX (p : Fin 6) : Rect S6x4x256x768 := Rect.unit (s := S6x4x256x768) ![p.val % 6, 0, 0, 0] S1x4x256x768.size (inb_xslot p.val)
/-- Slot `p` of the ring of position tiles, as a rectangle of its scratch. -/
abbrev slotP (p : Fin 6) : Rect S6x256x768 := Rect.unit (s := S6x256x768) ![p.val % 6, 0, 0] S1x256x768.size (inb_pslot p.val)
/-- Slot `p` of the ring of results, as a rectangle of its scratch. -/
abbrev slotO (p : Fin 2) : Rect S2x4x256x768 := Rect.unit (s := S2x4x256x768) ![p.val % 2, 0, 0, 0] S1x4x256x768.size (inb_oslot p.val)

theorem lead_mod {n m : ℕ} (p : Fin n) (h : n = m) : p.val % m = 1 * p.val := by
  subst h; rw [one_mul, Nat.mod_eq_of_lt p.isLt]

theorem slotX_disjoint (p p' : Fin 6) (h : p ≠ p') : Disjoint (slotX p).set (slotX p').set :=
  Ring.lead_disjoint (s := S6x4x256x768) (0 : Fin 4) 1 (fun p : Fin 6 => ![p.val % 6, 0, 0, 0]) S1x4x256x768.size (fun p => inb_xslot p.val) (fun p => lead_mod p rfl) rfl p p' h
theorem slotX_cover : Finset.univ.biUnion (fun p => (slotX p).set) = Finset.univ :=
  Ring.lead_cover (s := S6x4x256x768) (0 : Fin 4) 1 (fun p : Fin 6 => ![p.val % 6, 0, 0, 0]) S1x4x256x768.size (fun p => inb_xslot p.val) (fun p => lead_mod p rfl)
    (fun b a h => by fin_cases a <;> first | rfl | exact absurd rfl h) rfl (fun a h => by fin_cases a <;> first | rfl | exact absurd rfl h) rfl
theorem slotP_disjoint (p p' : Fin 6) (h : p ≠ p') : Disjoint (slotP p).set (slotP p').set :=
  Ring.lead_disjoint (s := S6x256x768) (0 : Fin 3) 1 (fun p : Fin 6 => ![p.val % 6, 0, 0]) S1x256x768.size (fun p => inb_pslot p.val) (fun p => lead_mod p rfl) rfl p p' h
theorem slotP_cover : Finset.univ.biUnion (fun p => (slotP p).set) = Finset.univ :=
  Ring.lead_cover (s := S6x256x768) (0 : Fin 3) 1 (fun p : Fin 6 => ![p.val % 6, 0, 0]) S1x256x768.size (fun p => inb_pslot p.val) (fun p => lead_mod p rfl)
    (fun b a h => by fin_cases a <;> first | rfl | exact absurd rfl h) rfl (fun a h => by fin_cases a <;> first | rfl | exact absurd rfl h) rfl
theorem slotO_disjoint (p p' : Fin 2) (h : p ≠ p') : Disjoint (slotO p).set (slotO p').set :=
  Ring.lead_disjoint (s := S2x4x256x768) (0 : Fin 4) 1 (fun p : Fin 2 => ![p.val % 2, 0, 0, 0]) S1x4x256x768.size (fun p => inb_oslot p.val) (fun p => lead_mod p rfl) rfl p p' h
theorem slotO_cover : Finset.univ.biUnion (fun p => (slotO p).set) = Finset.univ :=
  Ring.lead_cover (s := S2x4x256x768) (0 : Fin 4) 1 (fun p : Fin 2 => ![p.val % 2, 0, 0, 0]) S1x4x256x768.size (fun p => inb_oslot p.val) (fun p => lead_mod p rfl)
    (fun b a h => by fin_cases a <;> first | rfl | exact absurd rfl h) rfl (fun a h => by fin_cases a <;> first | rfl | exact absurd rfl h) rfl

/-- Room in a slot of the input ring is the slot's elements of the scratch. -/
theorem room_slotX (p : Fin 6) :
    (room c (LX.slot p.val) : sProp 𝕄) = iprop(∃ f, ((c : Thread nD τ).loc cc0_scoped0) ↦[(slotX p).set]{fullShare} f) := by
  unfold room
  rw [show (LX.slot p.val).view.set = (slotX p).set from (View.set_reshape _ _).trans (View.set_slice_whole _ _)]
/-- Room in a slot of the position ring is the slot's elements of the scratch. -/
theorem room_slotP (p : Fin 6) :
    (room c (LP.slot p.val) : sProp 𝕄) = iprop(∃ f, ((c : Thread nD τ).loc cc0_scoped2) ↦[(slotP p).set]{fullShare} f) := by
  unfold room
  rw [show (LP.slot p.val).view.set = (slotP p).set from (View.set_reshape _ _).trans (View.set_slice_whole _ _)]
/-- Room in a slot of the result ring is the slot's elements of the scratch. -/
theorem room_slotO (p : Fin 2) :
    (room c (LO.slot p.val) : sProp 𝕄) = iprop(∃ f, ((c : Thread nD τ).loc cc0_scoped4) ↦[(slotO p).set]{fullShare} f) := by
  unfold room
  rw [show (LO.slot p.val).view.set = (slotO p).set from (View.set_reshape _ _).trans (View.set_slice_whole _ _)]

/-- The input scratch holds room in its six slots. -/
theorem scratchX : (iprop(∃ f, ((c : Thread nD τ).loc cc0_scoped0) ↦{fullShare} f) : sProp 𝕄)
    ⊢ bigSep Finset.univ fun p : Fin 6 => room c (LX.slot p.val) :=
  slots_of (ℓ := (c : Thread nD τ).loc cc0_scoped0) (fun p => (slotX p).set) slotX_disjoint slotX_cover _ (room_slotX c)
theorem scratchX_back (f₀ : Buf (Elt F) ((c : Thread nD τ).loc cc0_scoped0)) : (bigSep Finset.univ fun p : Fin 6 => room c (LX.slot p.val))
    ⊢ (iprop(∃ f, ((c : Thread nD τ).loc cc0_scoped0) ↦{fullShare} f) : sProp 𝕄) :=
  of_slots (ℓ := (c : Thread nD τ).loc cc0_scoped0) (fun p => (slotX p).set) slotX_disjoint slotX_cover _ (room_slotX c) f₀
/-- The position scratch holds room in its six slots. -/
theorem scratchP : (iprop(∃ f, ((c : Thread nD τ).loc cc0_scoped2) ↦{fullShare} f) : sProp 𝕄)
    ⊢ bigSep Finset.univ fun p : Fin 6 => room c (LP.slot p.val) :=
  slots_of (ℓ := (c : Thread nD τ).loc cc0_scoped2) (fun p => (slotP p).set) slotP_disjoint slotP_cover _ (room_slotP c)
theorem scratchP_back (f₀ : Buf (Elt F) ((c : Thread nD τ).loc cc0_scoped2)) : (bigSep Finset.univ fun p : Fin 6 => room c (LP.slot p.val))
    ⊢ (iprop(∃ f, ((c : Thread nD τ).loc cc0_scoped2) ↦{fullShare} f) : sProp 𝕄) :=
  of_slots (ℓ := (c : Thread nD τ).loc cc0_scoped2) (fun p => (slotP p).set) slotP_disjoint slotP_cover _ (room_slotP c) f₀
/-- The result scratch holds room in its two slots. -/
theorem scratchO : (iprop(∃ f, ((c : Thread nD τ).loc cc0_scoped4) ↦{fullShare} f) : sProp 𝕄)
    ⊢ bigSep Finset.univ fun p : Fin 2 => room c (LO.slot p.val) :=
  slots_of (ℓ := (c : Thread nD τ).loc cc0_scoped4) (fun p => (slotO p).set) slotO_disjoint slotO_cover _ (room_slotO c)
theorem scratchO_back (f₀ : Buf (Elt F) ((c : Thread nD τ).loc cc0_scoped4)) : (bigSep Finset.univ fun p : Fin 2 => room c (LO.slot p.val))
    ⊢ (iprop(∃ f, ((c : Thread nD τ).loc cc0_scoped4) ↦{fullShare} f) : sProp 𝕄) :=
  of_slots (ℓ := (c : Thread nD τ).loc cc0_scoped4) (fun p => (slotO p).set) slotO_disjoint slotO_cover _ (room_slotO c) f₀

end Cert.KernelIdeal.Hand
-- ==== Proof.Run.lean ====
/-
  Hand-written. The launch: from the argument arrays as given to the arrays at the end, the result array named.
-/
module

public import proofs.«01_k».proof.Proof.Arrays
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the transfers' counters. -/
local notation "𝕄" => MT nD τ sig Unit (Elt F) ℕ (Pipeline.UD sig nD τ) ℕ

/-- Where an element lies in its block. -/
def within (i : S4x8192x768.Idx) : S4x256x768.Idx := fun a => match a with
  | ⟨0, _⟩ => i 0
  | ⟨1, _⟩ => ⟨(i 1).val % 256, Nat.mod_lt _ (by decide)⟩
  | ⟨2, _⟩ => i 2

/-- The block an element lies in. -/
def blockAt (i : S4x8192x768.Idx) : Fin 32 := ⟨(i 1).val / 256, Nat.div_lt_of_lt_mul (i 1).isLt⟩

/-- The whole result, block by block. -/
def resultOf (x : S4x8192x768.Idx → Elt F .f32) (p : S8192x768.Idx → Elt F .f32) (g b : S768.Idx → Elt F .f32) : S4x8192x768.Idx → Elt F .f32 :=
  fun i => tileOf (xTile x (blockAt i)) (pTile p (blockAt i)) g b (within i)

/-- A block of the whole result is the tile computed for that block. -/
theorem xTile_resultOf (x : S4x8192x768.Idx → Elt F .f32) (p : S8192x768.Idx → Elt F .f32) (g b : S768.Idx → Elt F .f32) (k : Fin 32) :
    xTile (resultOf x p g b) k = tileOf (xTile x k) (pTile p k) g b := by
  funext j
  have hj : (j 1).val < 256 := (j 1).isLt
  have h1 : (((rowsRect k).emb j) 1).val = 256 * k.val + (j 1).val := by
    show 256 * k.val + 1 * (j 1).val = _; omega
  have hb : blockAt ((rowsRect k).emb j) = k := Fin.ext (by
    show (((rowsRect k).emb j) 1).val / 256 = k.val; omega)
  have hw : within ((rowsRect k).emb j) = j := by
    funext a
    match a with
    | ⟨0, _⟩ => exact Fin.ext (by show 0 + 1 * (j 0).val = (j 0).val; omega)
    | ⟨1, _⟩ => exact Fin.ext (by show (((rowsRect k).emb j) 1).val % 256 = (j 1).val; omega)
    | ⟨2, _⟩ => exact Fin.ext (by show 0 + 1 * (j 2).val = (j 2).val; omega)
  show tileOf (xTile x (blockAt _)) (pTile p (blockAt _)) g b (within _) = _
  rw [hb, hw]

variable (m : (ℓ : Loc nD τ sig) → Buf (Elt F) ℓ) (ρ : Dev nD → PrngReg)

/-- The arrays as launched. -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- Gamma or beta, as its window reads it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the program leaves in an array: the result in the result array, any other as launched. -/
def W (c : Dev nD) (b : Ref sig .tc) : Buf (Elt F) ((c : Thread nD τ).loc b) :=
  if h : b = main_v0 then h ▸ resultOf (F := F) (V m c main_arg0) (V m c main_arg2) (iblk m c 0 t0_0) (iblk m c 1 t0_0) else V m c b

theorem W_result (c : Dev nD) :
    W m c main_v0 = resultOf (F := F) (V m c main_arg0) (V m c main_arg2) (iblk m c 0 t0_0) (iblk m c 1 t0_0) := by
  unfold W; rw [dif_pos rfl]

/-- The kernel's own semaphores: six for input tiles, six for position tiles, two for results. -/
abbrev osem0 : Fin 14 → SemLoc sig := fun j =>
  (![SemLoc.dma (LX.sem 0), SemLoc.dma (LX.sem 1), SemLoc.dma (LX.sem 2), SemLoc.dma (LX.sem 3), SemLoc.dma (LX.sem 4), SemLoc.dma (LX.sem 5),
    SemLoc.dma (LP.sem 0), SemLoc.dma (LP.sem 1), SemLoc.dma (LP.sem 2), SemLoc.dma (LP.sem 3), SemLoc.dma (LP.sem 4), SemLoc.dma (LP.sem 5),
    SemLoc.dma (LO.sem 0), SemLoc.dma (LO.sem 1)] : Fin 14 → SemLoc sig) j

theorem ownSemFacts0 : Pipeline.OwnSemFacts spec0 osem0 := by decide +kernel

/-- The arrays the kernel's own copies read. -/
def H0 : Finset (Ref sig .tc) := {main_arg0, main_arg2}
/-- The array the kernel's own copies write. -/
def R0 : Finset (Ref sig .tc) := {main_v0}
theorem H0_sub : H0 ⊆ Pipeline.restRefs sig spec0 := by decide
theorem R0_sub : R0 ⊆ Pipeline.restRefs sig spec0 \ H0 := by decide

/-- A semaphore at zero. -/
abbrev zero (c : Dev nD) (s : DmaSem sig) : sProp 𝕄 := semVal ((c : Thread nD τ), SemLoc.dma s) 0

theorem sems_eq (c : Dev nD) :
    (Pipeline.ownSems0 (Ix := Unit) (Name := ℕ) (U := Pipeline.UD sig nD τ) (Lvl := ℕ) (Val := Elt F) (τ := τ) osem0 c : sProp 𝕄)
      = iprop(zero c (LX.sem 0) ∗ zero c (LX.sem 1) ∗ zero c (LX.sem 2) ∗ zero c (LX.sem 3) ∗ zero c (LX.sem 4) ∗ zero c (LX.sem 5)
        ∗ zero c (LP.sem 0) ∗ zero c (LP.sem 1) ∗ zero c (LP.sem 2) ∗ zero c (LP.sem 3) ∗ zero c (LP.sem 4) ∗ zero c (LP.sem 5)
        ∗ zero c (LO.sem 0) ∗ zero c (LO.sem 1)) := by
  rw [Pipeline.ownSems0_eq_of_list c osem0 [0, 1, 2, 3, 4, 5, 6, 7, 8, 9, 10, 11, 12, 13] (by decide) (by decide)]; rfl

theorem reads_eq (c : Dev nD) :
    (bigSep H0 (fun b => ((c : Thread nD τ).loc b) ↦{fullShare} V m c b) : sProp 𝕄)
      = iprop(owns (c : Thread nD τ) (Memref.whole main_arg0 : Memref sig .tc .hbm S4x8192x768 .f32) fullShare (V m c main_arg0)
        ∗ owns (c : Thread nD τ) (Memref.whole main_arg2 : Memref sig .tc .hbm S8192x768 .f32) fullShare (V m c main_arg2)) := by
  rw [BI.bigSep_eq_bigSepL_of_eq [main_arg0, main_arg2] (by decide) (by decide), owns_whole, owns_whole]; rfl

theorem writes_eq (c : Dev nD) (U : (b : Ref sig .tc) → Buf (Elt F) ((c : Thread nD τ).loc b)) :
    (Pipeline.routed R0 c U : sProp 𝕄)
      = owns (c : Thread nD τ) (Memref.whole main_v0 : Memref sig .tc .hbm S4x8192x768 .f32) fullShare (U main_v0) := by
  unfold Pipeline.routed
  rw [BI.bigSep_eq_bigSepL_of_eq [main_v0] (by decide) (by decide), owns_whole]; rfl

/-- The slots of a ring of six, each with room. -/
theorem rooms6 {s : Shape} (L : Lane s) (c : Dev nD) :
    (bigSep Finset.univ (fun p : Fin 6 => room c (L.slot p.val)) : sProp 𝕄)
      = iprop(room c (L.slot 0) ∗ room c (L.slot 1) ∗ room c (L.slot 2) ∗ room c (L.slot 3) ∗ room c (L.slot 4) ∗ room c (L.slot 5)) := by
  rw [BI.bigSep_univ_eq_bigSepL [0, 1, 2, 3, 4, 5] (by decide) (by decide)]; rfl

/-- The slots of a ring of two, each with room. -/
theorem rooms2 {s : Shape} (L : Lane s) (c : Dev nD) :
    (bigSep Finset.univ (fun p : Fin 2 => room c (L.slot p.val)) : sProp 𝕄) = iprop(room c (L.slot 0) ∗ room c (L.slot 1)) := by
  rw [BI.bigSep_univ_eq_bigSepL [0, 1] (by decide) (by decide)]; rfl

/-- A ring of six at rest, from its slots, its semaphores and its blocks. -/
theorem idle_of {s : Shape} (L : Lane s) (c : Dev nD) (val : Fin 32 → s.Idx → Elt F .f32) :
    iprop((bigSep Finset.univ fun p : Fin 6 => room c (L.slot p.val))
        ∗ (zero c (L.sem 0) ∗ zero c (L.sem 1) ∗ zero c (L.sem 2) ∗ zero c (L.sem 3) ∗ zero c (L.sem 4) ∗ zero c (L.sem 5))
        ∗ bigSep Finset.univ (block L c val))
      ⊢ (idle L c val : sProp 𝕄) := by
  rw [rooms6]; unfold idle ready zero
  iintro ⟨⟨R0, R1, R2, R3, R4, R5⟩, ⟨S0, S1, S2, S3, S4, S5⟩, HB⟩
  isplitr [HB]
  · isplitl [R0 S0]; · isplitl [R0]; · iexact R0
                       iexact S0
    isplitl [R1 S1]; · isplitl [R1]; · iexact R1
                       iexact S1
    isplitl [R2 S2]; · isplitl [R2]; · iexact R2
                       iexact S2
    isplitl [R3 S3]; · isplitl [R3]; · iexact R3
                       iexact S3
    isplitl [R4 S4]; · isplitl [R4]; · iexact R4
                       iexact S4
    isplitl [R5]; · iexact R5
    iexact S5
  iexact HB

/-- and back. -/
theorem of_idle {s : Shape} (L : Lane s) (c : Dev nD) (val : Fin 32 → s.Idx → Elt F .f32) :
    (idle L c val : sProp 𝕄)
      ⊢ iprop((bigSep Finset.univ fun p : Fin 6 => room c (L.slot p.val))
        ∗ (zero c (L.sem 0) ∗ zero c (L.sem 1) ∗ zero c (L.sem 2) ∗ zero c (L.sem 3) ∗ zero c (L.sem 4) ∗ zero c (L.sem 5))
        ∗ bigSep Finset.univ (block L c val)) := by
  rw [rooms6]; unfold idle ready zero
  iintro ⟨⟨⟨R0, S0⟩, ⟨R1, S1⟩, ⟨R2, S2⟩, ⟨R3, S3⟩, ⟨R4, S4⟩, ⟨R5, S5⟩⟩, HB⟩
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [S0 S1 S2 S3 S4 S5]
  · isplitl [S0]; · iexact S0
    isplitl [S1]; · iexact S1
    isplitl [S2]; · iexact S2
    isplitl [S3]; · iexact S3
    isplitl [S4]; · iexact S4
    iexact S5
  iexact HB

/-- What the kernel holds beside its windows, the result array at `U`, as the library lists it. -/
theorem held_eq (c : Dev nD) (U : (b : Ref sig .tc) → Buf (Elt F) ((c : Thread nD τ).loc b)) :
    (iprop(Pipeline.scopedRest (Ix := Unit) (Name := ℕ) (U := Pipeline.UD sig nD τ) (Lvl := ℕ) (Val := Elt F) spec0 c ∗ (∃ r, prngReg c r)
          ∗ Pipeline.ownSems0 (Ix := Unit) (Name := ℕ) (U := Pipeline.UD sig nD τ) (Lvl := ℕ) (Val := Elt F) (τ := τ) osem0 c
          ∗ (bigSep H0 fun b => ((c.tc : Thread nD τ).loc b) ↦{fullShare} V m c b) ∗ Pipeline.routed R0 c U) : sProp 𝕄)
      = iprop(((∃ f, ((c : Thread nD τ).loc cc0_scoped0) ↦{fullShare} f) ∗ (∃ f, ((c : Thread nD τ).loc cc0_scoped2) ↦{fullShare} f)
            ∗ (∃ f, ((c : Thread nD τ).loc cc0_scoped4) ↦{fullShare} f))
          ∗ (∃ r, prngReg c r)
          ∗ (zero c (LX.sem 0) ∗ zero c (LX.sem 1) ∗ zero c (LX.sem 2) ∗ zero c (LX.sem 3) ∗ zero c (LX.sem 4) ∗ zero c (LX.sem 5)
            ∗ zero c (LP.sem 0) ∗ zero c (LP.sem 1) ∗ zero c (LP.sem 2) ∗ zero c (LP.sem 3) ∗ zero c (LP.sem 4) ∗ zero c (LP.sem 5)
            ∗ zero c (LO.sem 0) ∗ zero c (LO.sem 1))
          ∗ (owns (c : Thread nD τ) (Memref.whole main_arg0 : Memref sig .tc .hbm S4x8192x768 .f32) fullShare (V m c main_arg0)
            ∗ owns (c : Thread nD τ) (Memref.whole main_arg2 : Memref sig .tc .hbm S8192x768 .f32) fullShare (V m c main_arg2))
          ∗ owns (c : Thread nD τ) (Memref.whole main_v0 : Memref sig .tc .hbm S4x8192x768 .f32) fullShare (U main_v0)) := by
  rw [scopedRest0_eq, sems_eq, reads_eq, writes_eq]

/-- The input array, from its blocks. -/
theorem joinX (c : Dev nD) (f : S4x8192x768.Idx → Elt F .f32) :
    (bigSep Finset.univ (block LX c (xTile f)) : sProp 𝕄) ⊢ owns (c : Thread nD τ) (Memref.whole main_arg0 : Memref sig .tc .hbm S4x8192x768 .f32) fullShare f :=
  rows_join c f (Memref.whole main_arg0)
/-- The position table, from its blocks. -/
theorem joinP (c : Dev nD) (f : S8192x768.Idx → Elt F .f32) :
    (bigSep Finset.univ (block LP c (pTile f)) : sProp 𝕄) ⊢ owns (c : Thread nD τ) (Memref.whole main_arg2 : Memref sig .tc .hbm S8192x768 .f32) fullShare f :=
  table_join c f (Memref.whole main_arg2)
/-- The result array, from its blocks. -/
theorem joinO (c : Dev nD) (f : S4x8192x768.Idx → Elt F .f32) :
    (bigSep Finset.univ (block LO c (xTile f)) : sProp 𝕄) ⊢ owns (c : Thread nD τ) (Memref.whole main_v0 : Memref sig .tc .hbm S4x8192x768 .f32) fullShare f :=
  rows_join c f (Memref.whole main_v0)

/-- The kernel's own run between the launch's holdings: the result array goes from `V` to `W`. -/
theorem body_run (c : Dev nD) (G B : Memref sig .tc .vmem S768 .f32) (hG : G.IsWhole) (hB : B.IsWhole) (g b : S768.Idx → Elt F .f32)
    (U U' : (b : Ref sig .tc) → Buf (Elt F) ((c : Thread nD τ).loc b))
    (hU : U' main_v0 = resultOf (F := F) (V m c main_arg0) (V m c main_arg2) g b) {Q : PUnit → sProp 𝕄} :
    iprop(Pipeline.ΦDRG osem0 spec0 H0 R0 (V m) (fun _ => U) c ∗ owns (c : Thread nD τ) G fullShare g ∗ owns (c : Thread nD τ) B fullShare b ∗ waits c)
      ⊢ iprop((Pipeline.ΦDRG osem0 spec0 H0 R0 (V m) (fun _ => U') c ∗ owns (c : Thread nD τ) G fullShare g ∗ owns (c : Thread nD τ) B fullShare b ∗ waits c -∗ Q ⟨⟩)
        -∗ wp frame (wpE (defs₀ (F := F)) Variants.none (c : Thread nD τ) none) Set.univ
          (cc0_outer (F := F) (Memref.whole main_arg0) (Memref.isWhole_whole _) (Memref.whole main_arg2) (Memref.isWhole_whole _) G hG B hB
            (Memref.whole main_v0) (Memref.isWhole_whole _) (Memref.whole cc0_scoped0) (Memref.isWhole_whole _) cc0_scoped1
            (Memref.whole cc0_scoped2) (Memref.isWhole_whole _) cc0_scoped3 (Memref.whole cc0_scoped4) (Memref.isWhole_whole _) cc0_scoped5) Q) := by
  rw [Pipeline.ΦDRG_eq, held_eq, Pipeline.ΦDRG_eq, held_eq, hU]
  iintro ⟨⟨⟨⟨%f0, HX⟩, ⟨%f2, HP⟩, ⟨%f4, HO⟩⟩, Hr, ⟨X0, X1, X2, X3, X4, X5, P0, P1, P2, P3, P4, P5, O0, O1⟩, ⟨Hx, Hp⟩, Ho⟩, HG, HB, HW⟩ Hk
  ihave HX := (scratchX c) $$ [HX]; · iexists f0; iexact HX
  ihave HP := (scratchP c) $$ [HP]; · iexists f2; iexact HP
  ihave HO := ((scratchO c).trans (Entails.of_eq (rooms2 LO c))) $$ [HO]; · iexists f4; iexact HO
  icases HO with ⟨HO0, HO1⟩
  ihave Hx := (rows_split c _ _) $$ Hx
  ihave Hp := (table_split c _ _) $$ Hp
  ihave Ho := ((rows_split c _ _).trans (BI.bigSep_mono fun b _ => room_of_owns c _ _)) $$ Ho
  iapply (outer c (xTile (V m c main_arg0)) (xTile (resultOf (F := F) (V m c main_arg0) (V m c main_arg2) g b)) (pTile (V m c main_arg2)) G B hG hB g b
    (xTile_resultOf _ _ g b)) $$ [HX X0 X1 X2 X3 X4 X5 HP P0 P1 P2 P3 P4 P5 HO0 O0 HO1 O1 Hx Hp Ho HG HB HW]
  · isplitr [HG HB HW]
    · unfold atRest
      isplitl [HX X0 X1 X2 X3 X4 X5 Hx]
      · iapply (idle_of LX c (xTile (V m c main_arg0)))
        isplitl [HX]; · iexact HX
        isplitr [Hx]
        · isplitl [X0]; · iexact X0
          isplitl [X1]; · iexact X1
          isplitl [X2]; · iexact X2
          isplitl [X3]; · iexact X3
          isplitl [X4]; · iexact X4
          iexact X5
        iexact Hx
      isplitl [HP P0 P1 P2 P3 P4 P5 Hp]
      · iapply (idle_of LP c (pTile (V m c main_arg2)))
        isplitl [HP]; · iexact HP
        isplitr [Hp]
        · isplitl [P0]; · iexact P0
          isplitl [P1]; · iexact P1
          isplitl [P2]; · iexact P2
          isplitl [P3]; · iexact P3
          isplitl [P4]; · iexact P4
          iexact P5
        iexact Hp
      unfold ready
      isplitl [HO0 O0]; · isplitl [HO0]; · iexact HO0
                          iexact O0
      isplitl [HO1 O1]; · isplitl [HO1]; · iexact HO1
                          iexact O1
      iexact Ho
    isplitl [HG]; · iexact HG
    isplitl [HB]; · iexact HB
    iexact HW
  unfold atRest
  iintro ⟨⟨HX, HP, HO0, HO1, Ho⟩, HG, HB, HW⟩
  ihave HX := (of_idle LX c (xTile (V m c main_arg0))) $$ HX
  icases HX with ⟨HX, ⟨X0, X1, X2, X3, X4, X5⟩, Hx⟩
  ihave HP := (of_idle LP c (pTile (V m c main_arg2))) $$ HP
  icases HP with ⟨HP, ⟨P0, P1, P2, P3, P4, P5⟩, Hp⟩
  unfold ready
  icases HO0 with ⟨HO0, O0⟩
  icases HO1 with ⟨HO1, O1⟩
  ihave HX := (scratchX_back c f0) $$ HX
  ihave HP := (scratchP_back c f2) $$ HP
  ihave HO := ((Entails.of_eq (rooms2 LO c).symm).trans (scratchO_back c f4)) $$ [HO0 HO1]
  · isplitl [HO0]; · iexact HO0
    iexact HO1
  ihave Hx := (joinX c (V m c main_arg0)) $$ Hx
  ihave Hp := (joinP c (V m c main_arg2)) $$ Hp
  ihave Ho := (joinO c (resultOf (F := F) (V m c main_arg0) (V m c main_arg2) g b)) $$ Ho
  iapply Hk
  isplitr [HG HB HW]
  · isplitl [HX HP HO]
    · isplitl [HX]; · iexact HX
      isplitl [HP]; · iexact HP
      iexact HO
    isplitl [Hr]; · iexact Hr
    isplitr [Hx Hp Ho]
    · isplitl [X0]; · iexact X0
      isplitl [X1]; · iexact X1
      isplitl [X2]; · iexact X2
      isplitl [X3]; · iexact X3
      isplitl [X4]; · iexact X4
      isplitl [X5]; · iexact X5
      isplitl [P0]; · iexact P0
      isplitl [P1]; · iexact P1
      isplitl [P2]; · iexact P2
      isplitl [P3]; · iexact P3
      isplitl [P4]; · iexact P4
      isplitl [P5]; · iexact P5
      isplitl [O0]; · iexact O0
      iexact O1
    isplitl [Hx Hp]
    · isplitl [Hx]; · iexact Hx
      iexact Hp
    iexact Ho
  isplitl [HG]; · iexact HG
  isplitl [HB]; · iexact HB
  iexact HW

end Cert.KernelIdeal.Hand
-- ==== Proof.Ends.lean ====
/-
  Hand-written. The whole program's run: what every array and every semaphore holds at the end.
-/
module

public import proofs.«01_k».proof.Proof.Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resources: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The one grid point's proof data: the windows as fetched, the result array `V` before it and `W` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG osem0 spec0 H0 R0 (V m) (fun _ => if t.val = 0 then V m c else W m c) c
  q _ := fullShare
  owed _ := 0

theorem A_eq (c : Dev nD) (w : Fin cfg0.W) : (dats m 0 c).A w = V m c (Pipeline.arrRef spec0 w) := by dsimp only [dats]

/-- Gamma's stage holds gamma. -/
theorem before_gamma (c : Dev nD) (t : Fin cfg0.N) (d) : (dats m 0 c).before 0 t d = iblk m c 0 t :=
  ((dats m 0 c).before_in_eq_fetched 0 rfl (fun _ => rfl) (fun _ _ _ => rfl) (fun t => rfl) t d).trans rfl
/-- Beta's stage holds beta. -/
theorem before_beta (c : Dev nD) (t : Fin cfg0.N) (d) : (dats m 0 c).before 1 t d = iblk m c 1 t :=
  ((dats m 0 c).before_in_eq_fetched 1 rfl (fun _ => rfl) (fun _ _ _ => rfl) (fun t => rfl) t d).trans rfl

/-- What the grid point starts from. -/
def pointPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
/-- What the grid point leaves. -/
def pointPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

/-- The kernel body takes the one to the other. -/
theorem point_run (c : Dev nD) (t : Fin cfg0.N) :
    pointPre m c t ⊢ wp frame (wpE (defs₀ (F := F)) Variants.none c none) Set.univ (bodyAt0 t) (fun _ => pointPost m c t) := by
  obtain rfl := fin_N0 t
  unfold pointPre pointPost bodyAt0
  rw [show (dats m 0 c).Φ t0_0.castSucc = Pipeline.ΦDRG osem0 spec0 H0 R0 (V m) (fun _ => V m c) c from rfl,
    show (dats m 0 c).Φ t0_0.succ = Pipeline.ΦDRG osem0 spec0 H0 R0 (V m) (fun _ => W m c) c from rfl]
  simp only [before_gamma, before_beta]
  rw [show (dats m 0 c).after 0 t0_0 = iblk m c 0 t0_0 from rfl, show (dats m 0 c).after 1 t0_0 = iblk m c 1 t0_0 from rfl]
  unfold Dat.owesAt Pipeline.owesWithin
  rw [show (dats m 0 c).owed t0_0.castSucc = 0 from rfl, show (dats m 0 c).owed t0_0.succ = 0 from rfl]
  iintro ⟨HΦ, ⟨%Ws, -, HW⟩, ⟨%d0, HG⟩, ⟨%d1, HB⟩⟩
  iapply (body_run m c _ _ _ _ (iblk m c 0 t0_0) (iblk m c 1 t0_0) (V m c) (W m c) (W_result m c)) $$ [HΦ HG HB HW]
  · isplitl [HΦ]; · iexact HΦ
    isplitl [HG]; · iexact HG
    isplitl [HB]; · iexact HB
    unfold waits; iexists Ws; iexact HW
  unfold waits
  iintro ⟨HΦ, HG, HB, ⟨%Ws', HW⟩⟩
  isplitl [HΦ]; · iexact HΦ
  isplitl [HW]
  · iexists Ws'; isplitr; · ipureintro; exact fun _ _ => Or.inl trivial
    iexact HW
  isplitl [HG]; · iexact HG
  iexact HB

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (point_run m c t) rfl .rfl fun _ => .rfl

set_option backward.isDefEq.respectTransparency.types false in
theorem main_run : θ_run defs (onTc (τ := τ) (main (F := F))) (s₀ m ρ)
    (fun r => Pipeline.FramePostRG cfgs (dats m) 0 R0 (V m) (W m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_ok m c).loose) (hshare := fun c => (dats m 0 c).share_full fun _ => rfl)
    (howed := fun _ _ => rfl) (V := V m) (hmain := hmain m Variants.none) (hA := A_eq m) (G := W m)
    (hin := fun _ => .rfl) (hout := fun _ => .rfl)

/-- From any memory with every semaphore at zero, the program ends with the result array at the layer norm computed block by
    block, every argument array as it was, and every semaphore at zero. -/
theorem run : θ_run defs (onTc (τ := τ) (main (F := F))) ⟨m, fun _ => 0, ρ⟩ (fun r => (∀ c : Dev nD,
      r.2.mem ((c.tc : Thread nD τ).loc main_v0) = W m c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.written c (by decide),
      ((h.1.1 c).2 main_arg0 (Finset.mem_sdiff.mpr ⟨Pipeline.mem_restRefs_of main_arg0 (by decide) (by decide), by decide⟩)),
      ((h.1.1 c).2 main_arg1 (Finset.mem_sdiff.mpr ⟨Pipeline.mem_restRefs_of main_arg1 (by decide) (by decide), by decide⟩)),
      ((h.1.1 c).2 main_arg2 (Finset.mem_sdiff.mpr ⟨Pipeline.mem_restRefs_of main_arg2 (by decide) (by decide), by decide⟩)),
      ((h.1.1 c).1 0).trans (((dats m 0 c).arrAt_in 0 rfl _).trans (A_eq m c 0)),
      ((h.1.1 c).1 1).trans (((dats m 0 c).arrAt_in 1 rfl _).trans (A_eq m c 1))⟩, h.2⟩) (main_run m ρ)

/-- The same without the result: the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

/-- Gamma's one block is gamma. -/
theorem gamma_block (c : Dev nD) : iblk m c 0 t0_0 = V m c main_arg3 := by
  funext j
  show m ((c : Thread nD τ).loc main_arg3) _ = m ((c : Thread nD τ).loc main_arg3) j
  congr 1; funext a; match a with
  | ⟨0, _⟩ => exact Fin.ext (by show 0 + 1 * (j 0).val = (j 0).val; omega)
/-- Beta's one block is beta. -/
theorem beta_block (c : Dev nD) : iblk m c 1 t0_0 = V m c main_arg4 := by
  funext j
  show m ((c : Thread nD τ).loc main_arg4) _ = m ((c : Thread nD τ).loc main_arg4) j
  congr 1; funext a; match a with
  | ⟨0, _⟩ => exact Fin.ext (by show 0 + 1 * (j 0).val = (j 0).val; omega)

end Cert.KernelIdeal.Hand
-- ==== Proof.Same.lean ====
/-
  Hand-written. The kernel and its idealization are one text: what is proved of the one at every float semantics is proved of the other.
-/
module

public import proofs.«01_k».proof.Kernel
public import proofs.«01_k».proof.Proof.Gen.Kernel
public import proofs.«01_k».proof.Proof.Ends

@[expose] public section

noncomputable section

namespace Cert.Kernel.Hand

open Idealize.ShloMosaic Idealize.ShloMosaic.TcCoe Idealize.SL.Sem

variable {F : FTy → Type} [FloatOps F]

/-- The two programs' kernel bodies are the same. -/
theorem bodies_same : Cert.Kernel.defs₀ (F := F) = Cert.KernelIdeal.defs₀ (F := F) := by
  unfold Cert.Kernel.defs₀ Cert.KernelIdeal.defs₀
  congr 1
  funext l a
  match l, a with
  | 0, (t, s) => rfl

/-- The two programs' definitions are the same. -/
theorem defs_same : Cert.Kernel.defs (F := F) = Cert.KernelIdeal.defs (F := F) := by
  unfold Cert.Kernel.defs Cert.KernelIdeal.defs
  rw [bodies_same]; rfl

open Cert.Kernel in
/-- The kernel ends with its arguments as they were and every semaphore at zero. -/
theorem frame (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.KernelIdeal.Hand.frame (F := F) m ρ

end Cert.Kernel.Hand
-- ==== Proof.Layer.lean ====
module

public import Idealize.ShloMosaic.Lib.Pointwise

/-!
Layer normalisation of one row, over the extended reals: what both programs compute of each row of 768 entries.
-/

@[expose] public section

noncomputable section

namespace Cert.Layer
open Idealize.ShloMosaic

/-- The row length, 768, as both programs write it. -/
abbrev count : EReal := Ideal.ofBits .f32 0x44400000#32

/-- The small constant added to the variance, as both programs write it. -/
abbrev eps : EReal := Ideal.ofBits .f32 0x2B8CBCCC#32

/-- The mean of a row. -/
def mean (r : Fin 768 → EReal) : EReal := Ideal.div (∑ k, r k) count

/-- An entry less the mean of its row. -/
def dev (r : Fin 768 → EReal) (k : Fin 768) : EReal := r k - mean r

/-- The variance of a row plus the small constant. -/
def spread (r : Fin 768 → EReal) : EReal := Ideal.div (∑ k, dev r k * dev r k) count + eps

/-- A normalised entry, scaled and shifted: the deviation times the reciprocal root of the spread. -/
def norm (r : Fin 768 → EReal) (g b : EReal) (k : Fin 768) : EReal :=
  dev r k * Ideal.rsqrt (spread r) * g + b

/-- The row length is a positive real number. -/
theorem count_eq : count = ((768 : ℝ) : EReal) := by
  simp only [count, Ideal.ofBits, Ideal.ieee]
  simp
  rw [← EReal.coe_mul]
  norm_num

/-- The small constant is a positive real number. -/
theorem eps_pos : ∃ e : ℝ, 0 < e ∧ eps = (e : EReal) := by
  refine ⟨_, ?_, show eps = ((9223372 * (2 : ℝ) ^ (-63 : ℤ) : ℝ) : EReal) from ?_⟩
  · positivity
  · simp [Ideal.ofBits, Ideal.ieee]

/-- A product of an extended real with itself is not negative. -/
theorem square_nonneg (x : EReal) : 0 ≤ x * x := by
  induction x with
  | bot => simp
  | top => simp
  | coe r => exact_mod_cast mul_self_nonneg r

/-- The spread of a row is positive. -/
theorem spread_pos (r : Fin 768 → EReal) : 0 < spread r := by
  obtain ⟨e, he, hE⟩ := eps_pos
  have hs : (0 : EReal) ≤ ∑ k, dev r k * dev r k := Finset.sum_nonneg fun k _ => square_nonneg _
  have hd : (0 : EReal) ≤ Ideal.div (∑ k, dev r k * dev r k) count := by
    unfold Ideal.div
    rw [count_eq, if_neg (by norm_cast)]
    exact mul_nonneg hs (by rw [← EReal.coe_inv]; exact_mod_cast (by norm_num : (0:ℝ) ≤ (768:ℝ)⁻¹))
  unfold spread
  rw [hE]
  exact lt_of_lt_of_le (by exact_mod_cast he) (le_add_of_nonneg_left hd)

/-- Dividing by the root of a positive number is multiplying by its reciprocal root. -/
theorem div_sqrt (x v : EReal) (hv : 0 < v) : Ideal.div x (Ideal.sqrt v) = x * Ideal.rsqrt v := by
  induction v with
  | bot => simp at hv
  | top =>
    have h1 : Ideal.sqrt ⊤ = ⊤ := rfl
    have h2 : Ideal.rsqrt ⊤ = 0 := rfl
    rw [h1, h2]
    simp [Ideal.div]
  | coe r =>
    have hr : 0 < r := by exact_mod_cast hv
    have hs : (Real.sqrt r : EReal) ≠ 0 := by exact_mod_cast (Real.sqrt_pos.mpr hr).ne'
    have h1 : Ideal.sqrt (r : EReal) = (Real.sqrt r : EReal) := (if_neg hr.not_gt : _)
    have h2 : Ideal.rsqrt (r : EReal) = ((Real.sqrt r)⁻¹ : ℝ) := (if_neg hr.not_gt : _).trans (if_neg hr.ne')
    rw [h1, h2, Ideal.div, if_neg hs, EReal.coe_inv]

/-- The same entry with the deviation divided by the root of the spread. -/
theorem norm_eq_div (r : Fin 768 → EReal) (g b : EReal) (k : Fin 768) :
    norm r g b k = Ideal.div (dev r k) (Ideal.sqrt (spread r)) * g + b := by
  rw [div_sqrt _ _ (spread_pos r)]; rfl

end Cert.Layer
-- ==== Proof.Tile.lean ====
/-
  Hand-written. What one result tile holds, over the extended reals: each entry is the layer
  normalisation of the entry's row.
-/
module

public import proofs.«01_k».proof.Proof.Trip
public import proofs.«01_k».proof.Proof.Layer
public import Idealize.ShloMosaic.Lib.Pointwise

@[expose] public section

noncomputable section

namespace Cert.KernelIdeal.Hand

open Cert.KernelIdeal Cert.KernelIdeal.Gen
open Idealize.ShloMosaic Cert.Layer

variable (x : S4x256x768.Idx → Elt Ideal .f32) (p : S256x768.Idx → Elt Ideal .f32) (g b : S768.Idx → Elt Ideal .f32)

/-- A row of a tile: the entries of `x` plus those of the position tile. -/
def tileRow (a : Fin 4) (r : Fin 256) : Fin 768 → EReal := fun k => x (ix3 a r k) + p (ix2 r k)

/-- The first payload holds the deviations from the row means. -/
theorem pay1_apply (a : Fin 4) (r : Fin 256) (k : Fin 768) :
    k0_pay1 (F := Ideal) (shapeCast S1x4x256x768 x shapeCasts_S4x256x768_S1x4x256x768) (shapeCast S1x256x768 p shapeCasts_S256x768_S1x256x768) (ix3 a r k)
      = dev (tileRow x p a r) k := by
  pointwise [k0_pay1, dev, mean, tileRow]

/-- The second payload holds the row sums of the squared deviations. -/
theorem pay2_apply (a : Fin 4) (r : Fin 256) :
    k0_pay2 (F := Ideal) (shapeCast S1x4x256x768 x shapeCasts_S4x256x768_S1x4x256x768) (shapeCast S1x256x768 p shapeCasts_S256x768_S1x256x768) (ix3 a r 0)
      = ∑ k, dev (tileRow x p a r) k * dev (tileRow x p a r) k := by
  pointwise [k0_pay2]
  exact Finset.sum_congr rfl fun k _ => by rw [pay1_apply]

/-- A tile's entry is the normalised entry of its row. -/
theorem tileOf_apply (a : Fin 4) (r : Fin 256) (k : Fin 768) :
    tileOf (F := Ideal) x p g b (ix3 a r k) = Layer.norm (tileRow x p a r) (g (ix1 k)) (b (ix1 k)) k := by
  pointwise [tileOf, k0_pay3]
  rw [pay1_apply, pay2_apply]
  rfl

end Cert.KernelIdeal.Hand
-- ==== Proof.Reference.lean ====
/-
  Hand-written. What the reference computes, over the extended reals: the positions it looks up are
  the row numbers, so each entry is the layer normalisation of its row of `x` plus the table's row.
-/
module

public import proofs.«01_k».proof.Proof.Gen.ReferenceIdeal.Run
public import proofs.«01_k».proof.Proof.Layer
public import Idealize.ShloMosaic.Lib.Pointwise

@[expose] public section

noncomputable section

namespace Cert.ReferenceIdeal.Hand

open Cert.ReferenceIdeal Cert.ReferenceIdeal.Gen
open Idealize.ShloMosaic Cert.Layer

/-- The row number of every row, as a word. -/
def positions : IVec S4x8192 32 :=
  broadcastInDim S4x8192 ![0, 1] bcast_S1x8192_S4x8192_0_1 (broadcastInDim S1x8192 ![1] bcast_S8192_S1x8192_1 (iotaInDim S8192 32 0))

/-- The positions as the lookup reads them: a negative one would count from the table's end. -/
def ids : IVec S4x8192x1 32 :=
  broadcastInDim S4x8192x1 ![0, 1] bcast_S4x8192_S4x8192x1_0_1
    (select (cmpi .slt positions (broadcastInDim S4x8192 ![] bcast_S_S4x8192 (constantI S_ 32 0#32)))
      (addi positions (broadcastInDim S4x8192 ![] bcast_S_S4x8192 (constantI S_ 32 8192#32))) positions)

/-- Whether each position lies in the table. -/
def inside : IVec S4x8192 1 :=
  Host.reduce IntOp.andi
    (andi (cmpi .sge ids (broadcastInDim S4x8192x1 ![] bcast_S_S4x8192x1 (constantI S_ 32 0#32)))
      (cmpi .sle ids (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The table's rows at those positions. -/
def taken (t : FVec Ideal S8192x768 .f32) : FVec Ideal S4x8192x768 .f32 :=
  select (broadcastInDim S4x8192x768 ![0, 1] bcast_S4x8192_S4x8192x768_0_1 inside)
    (Host.gather gather_S8192x768_S4x8192x1_S4x8192x768_2_0_n_n_0_2_1768 t ids)
    (broadcastInDim S4x8192x768 ![] bcast_S_S4x8192x768 (constant S_ .f32 0x7FC00000#32))

/-- Each entry less the mean of its row. -/
def centred (e : FVec Ideal S4x8192x768 .f32) : FVec Ideal S4x8192x768 .f32 :=
  subf e (broadcastInDim S4x8192x768 ![0, 1, 2] bcast_S4x8192x1_S4x8192x768_0_1_2
    (Host.divf (broadcastInDim S4x8192x1 ![0, 1] bcast_S4x8192_S4x8192x1_0_1
        (Host.reduceAdd e (constant S_ .f32 0x00000000#32) reducesTo_S4x8192x768_S4x8192_d2 h_S_))
      (broadcastInDim S4x8192x1 ![] bcast_S_S4x8192x1 (constant S_ .f32 0x44400000#32))))

/-- The normalised array, from the array of deviations. -/
def scaled (d : FVec Ideal S4x8192x768 .f32) (g b : FVec Ideal S768 .f32) : FVec Ideal S4x8192x768 .f32 :=
  addf (mulf (Host.divf d (broadcastInDim S4x8192x768 ![0, 1, 2] bcast_S4x8192x1_S4x8192x768_0_1_2
      (Host.sqrt (addf
        (Host.divf (broadcastInDim S4x8192x1 ![0, 1] bcast_S4x8192_S4x8192x1_0_1
            (Host.reduceAdd (mulf d d) (constant S_ .f32 0x00000000#32) reducesTo_S4x8192x768_S4x8192_d2 h_S_))
          (broadcastInDim S4x8192x1 ![] bcast_S_S4x8192x1 (constant S_ .f32 0x44400000#32)))
        (broadcastInDim S4x8192x1 ![] bcast_S_S4x8192x1 (constant S_ .f32 0x2B8CBCCC#32))))))
      (broadcastInDim S4x8192x768 ![0, 1, 2] bcast_S1x1x768_S4x8192x768_0_1_2 (broadcastInDim S1x1x768 ![2] bcast_S768_S1x1x768_2 g)))
    (broadcastInDim S4x8192x768 ![0, 1, 2] bcast_S1x1x768_S4x8192x768_0_1_2 (broadcastInDim S1x1x768 ![2] bcast_S768_S1x1x768_2 b))

/-- The reference's result, in those pieces. -/
theorem result_eq (m : (ℓ : Loc nD τ sig) → Buf (Elt Ideal) ℓ) (c : Dev nD) :
    Value.res_main_v28 m c = scaled (centred (addf (m ((c.tc : Thread nD τ).loc main_arg0)) (taken (m ((c.tc : Thread nD τ).loc main_arg2)))))
      (m ((c.tc : Thread nD τ).loc main_arg3)) (m ((c.tc : Thread nD τ).loc main_arg4)) := rfl

/-- A row number, read as a signed word, is itself. -/
theorem position_toInt (r : Fin 8192) : (BitVec.ofNat 32 r.val).toInt = (r.val : Int) := by
  have := r.isLt
  have e : (BitVec.ofNat 32 r.val).toNat = r.val := by rw [BitVec.toNat_ofNat]; omega
  rw [BitVec.toInt_eq_toNat_of_lt (by omega), e]

/-- The position of a row is its number. -/
theorem ids_apply (a : Fin 4) (r : Fin 8192) (z : Fin 1) : ids (ix3 a r z) = BitVec.ofNat 32 r.val := by
  have h : IntOp.cmpi .slt (BitVec.ofNat 32 r.val) 0#32 = 0#1 := by
    have e : (BitVec.ofNat 32 r.val).slt 0#32 = false := by
      rw [BitVec.slt_eq_decide, position_toInt]
      exact decide_eq_false (by show ¬(r.val : Int) < 0; omega)
    exact congrArg BitVec.ofBool e
  pointwise [ids, positions]
  rw [h]
  rfl

/-- Every position lies in the table. -/
theorem inside_apply (a : Fin 4) (r : Fin 8192) : inside (ix2 a r) = 1#1 := by
  have hlo : IntOp.cmpi .sge (BitVec.ofNat 32 r.val) 0#32 = 1#1 := by
    simp [IntOp.cmpi, BitVec.sle_eq_decide, position_toInt]
  have hhi : IntOp.cmpi .sle (BitVec.ofNat 32 r.val) 8191#32 = 1#1 := by
    have := r.isLt
    have e : (BitVec.ofNat 32 r.val).sle 8191#32 = true := by
      rw [BitVec.sle_eq_decide, position_toInt]
      exact decide_eq_true (by show (r.val : Int) ≤ 8191; omega)
    exact congrArg BitVec.ofBool e
  pointwise [inside]
  simp only [ids_apply, hlo, hhi]
  rfl

/-- The rows looked up are the table's own rows. -/
theorem taken_apply (t : FVec Ideal S8192x768 .f32) (a : Fin 4) (r : Fin 8192) (k : Fin 768) :
    taken t (ix3 a r k) = t (ix2 r k) := by
  pointwise [taken, inside_apply]
  unfold Host.gather
  congr 1
  funext d
  refine Fin.ext ?_
  let D := gather_S8192x768_S4x8192x1_S4x8192x768_2_0_n_n_0_2_1768
  show D.start (ix3 a r k) ids d + D.batchCoord (ix3 a r k) d + D.offCoord (ix3 a r k) d = _
  rw [D.batchCoord_eq_zero _ _ List.not_mem_nil]
  match d with
  | ⟨0, _⟩ =>
    have hsi : D.siIdx (ix3 a r k) ⟨0, Nat.one_pos⟩ = ix3 a r 0 := by
      funext b; refine Fin.ext ?_
      match b with
      | ⟨0, _⟩ => rfl
      | ⟨1, _⟩ => rfl
      | ⟨2, _⟩ => rfl
    have hs : D.start (ix3 a r k) ids (0 : Fin 2) = min (ids (D.siIdx (ix3 a r k) ⟨0, Nat.one_pos⟩)).toInt.toNat 8191 :=
      dif_pos (List.mem_singleton.mpr rfl)
    have ho : D.offCoord (ix3 a r k) (0 : Fin 2) = 0 :=
      D.offCoord_eq_zero _ _ fun h => ((D.mem_sKept _).mp h).1 (List.mem_singleton.mpr rfl)
    show D.start (ix3 a r k) ids (0 : Fin 2) + 0 + D.offCoord (ix3 a r k) (0 : Fin 2) = r.val
    have := r.isLt
    rw [hs, ho, hsi, ids_apply, position_toInt]
    omega
  | ⟨1, _⟩ =>
    have hs : D.start (ix3 a r k) ids (1 : Fin 2) = 0 :=
      dif_neg fun h => absurd (List.mem_singleton.mp h) (by decide)
    show D.start (ix3 a r k) ids (1 : Fin 2) + 0 + D.offCoord (ix3 a r k) (1 : Fin 2) = k.val
    rw [hs]
    exact Nat.zero_add _

/-- A deviation is the entry's deviation in its row. -/
theorem centred_apply (e : FVec Ideal S4x8192x768 .f32) (a : Fin 4) (r : Fin 8192) (k : Fin 768) :
    centred e (ix3 a r k) = dev (fun k => e (ix3 a r k)) k := by
  pointwise [centred, dev, mean]

/-- An entry of the result is the normalised entry of its row. -/
theorem scaled_apply (e : FVec Ideal S4x8192x768 .f32) (g b : FVec Ideal S768 .f32) (a : Fin 4) (r : Fin 8192) (k : Fin 768) :
    scaled (centred e) g b (ix3 a r k) = Layer.norm (fun k => e (ix3 a r k)) (g (ix1 k)) (b (ix1 k)) k := by
  rw [norm_eq_div]
  pointwise [scaled, centred_apply]
  rfl

end Cert.ReferenceIdeal.Hand
-- ==== Proof.Equal.lean ====
/-
  Hand-written. The equation: over the extended reals the kernel's result is the reference's, entry
  by entry.
-/
module

public import proofs.«01_k».proof.Proof.Tile
public import proofs.«01_k».proof.Proof.Reference
public import proofs.«01_k».proof.Proof.Ends

@[expose] public section

noncomputable section

namespace Cert.Equal

open Idealize.ShloMosaic
open Cert.KernelIdeal.Hand (W V tileOf tileRow tileOf_apply resultOf blockAt within xTile pTile W_result gamma_block beta_block)
open Cert.ReferenceIdeal.Hand (result_eq scaled_apply taken_apply)

/-- An entry of the assembled result is the normalised entry of its row of `x` plus the table's row. -/
theorem resultOf_apply (x : Cert.KernelIdeal.S4x8192x768.Idx → Elt Ideal .f32) (p : Cert.KernelIdeal.S8192x768.Idx → Elt Ideal .f32)
    (g b : Cert.KernelIdeal.S768.Idx → Elt Ideal .f32) (a : Fin 4) (r : Fin 8192) (k : Fin 768) :
    resultOf (F := Ideal) x p g b (ix3 a r k) = Layer.norm (fun k => x (ix3 a r k) + p (ix2 r k)) (g (ix1 k)) (b (ix1 k)) k := by
  have hw : within (ix3 a r k) = ix3 a ⟨r.val % 256, Nat.mod_lt _ (by decide)⟩ k := by
    funext d
    match d with
    | ⟨0, _⟩ => rfl
    | ⟨1, _⟩ => rfl
    | ⟨2, _⟩ => rfl
  show tileOf (F := Ideal) (xTile x (blockAt (ix3 a r k))) (pTile p (blockAt (ix3 a r k))) g b (within (ix3 a r k)) = _
  rw [hw, tileOf_apply]
  congr 1
  funext j
  have hr : 256 * (r.val / 256) + 1 * (r.val % 256) = r.val := by omega
  refine congrArg₂ (· + ·) (congrArg x ?_) (congrArg p ?_)
  · funext d
    refine Fin.ext ?_
    match d with
    | ⟨0, _⟩ => show 0 + 1 * a.val = a.val; omega
    | ⟨1, _⟩ => exact hr
    | ⟨2, _⟩ => show 0 + 1 * j.val = j.val; omega
  · funext d
    refine Fin.ext ?_
    match d with
    | ⟨0, _⟩ => exact hr
    | ⟨1, _⟩ => show 0 + 1 * j.val = j.val; omega

/-- On every device, from memories that agree on the arguments read, the reference's result is the kernel's. -/
theorem results_equal
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_main_v28 (F := Ideal) m' c = W (F := Ideal) m c Cert.KernelIdeal.main_v0 := by
  rw [W_result, gamma_block, beta_block, result_eq, h0, h2, h3, h4]
  funext i
  obtain ⟨a, r, k, rfl⟩ : ∃ (a : Fin 4) (r : Fin 8192) (k : Fin 768), i = ix3 a r k := ⟨i 0, i 1, i 2, eq_ix3 i⟩
  refine (scaled_apply _ _ _ a r k).trans (Eq.trans ?_ (resultOf_apply _ _ _ _ a r k).symm)
  refine congrArg (fun row => Layer.norm row _ _ k) (funext fun j => ?_)
  pointwise
  rw [taken_apply]

end Cert.Equal
-- ==== Proof.lean ====
/-
  Hand-written. The certificate's claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import Idealize.ShloMosaic.Adequacy
public import Idealize.ShloMosaic.Init
public import proofs.«01_k».proof.Proof.Equal

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The kernel ends with its arguments as they were and every semaphore at zero. -/
theorem kernel_frame : Cert.quiescent_Kernel := fun m g _ => Cert.Kernel.Hand.frame (F := Bits) m g

/-- The idealized kernel ends with its arguments as they were and every semaphore at zero. -/
theorem kernelIdeal_frame : Cert.quiescent_KernelIdeal := fun m g _ => Cert.KernelIdeal.Hand.frame (F := Ideal) m g

/-- The idealized reference ends with its arguments as they were; it has no semaphore. -/
theorem referenceIdeal_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The idealization rewrote nothing. -/
theorem kernel_preserved : Cert.preserves_Kernel_KernelIdeal := trivial

/-- The idealized kernel and the idealized reference end with the same result. -/
theorem equal : Cert.algebraic_KernelIdeal_ReferenceIdeal := fun m g m' g' _ hargs =>
  ⟨fun c => Cert.KernelIdeal.Hand.W m c Cert.KernelIdeal.main_v0,
    (θ_run Cert.KernelIdeal.defs _ _).mono (fun _ h c => h.1 c) (Cert.KernelIdeal.Hand.run (F := Ideal) m g),
    (θ_run Cert.ReferenceIdeal.defs _ _).mono
      (fun _ h c => ⟨(h c).1.trans (Cert.Equal.results_equal m m' c (hargs c).1 (hargs c).2.2.1 (hargs c).2.2.2.1 (hargs c).2.2.2.2), (h c).2⟩)
      (Cert.ReferenceIdeal.Value.run (F := Ideal) m' g')⟩

theorem claim : Cert.Claim := ⟨Cert.Kernel.Gen.facts, Cert.KernelIdeal.Gen.facts, Cert.ReferenceIdeal.Gen.facts,
  kernel_frame, kernelIdeal_frame, referenceIdeal_frame, kernel_preserved, equal⟩

end Cert.Proof
